-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S7x1x1024 : Shape := ⟨3, ![7, 1, 1024]⟩
abbrev S7 : Shape := ⟨1, ![7]⟩
abbrev S_ : Shape := ⟨0, ![]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S1 : Shape := ⟨1, ![1]⟩
abbrev S1x1x1024 : Shape := ⟨3, ![1, 1, 1024]⟩
abbrev S2047x1024 : Shape := ⟨2, ![2047, 1024]⟩
abbrev S2046x1024 : Shape := ⟨2, ![2046, 1024]⟩
abbrev S2044x1024 : Shape := ⟨2, ![2044, 1024]⟩
abbrev S2040x1024 : Shape := ⟨2, ![2040, 1024]⟩
abbrev S2032x1024 : Shape := ⟨2, ![2032, 1024]⟩
abbrev S2016x1024 : Shape := ⟨2, ![2016, 1024]⟩
abbrev S1984x1024 : Shape := ⟨2, ![1984, 1024]⟩
abbrev S1920x1024 : Shape := ⟨2, ![1920, 1024]⟩
abbrev S1792x1024 : Shape := ⟨2, ![1792, 1024]⟩
abbrev S1536x1024 : Shape := ⟨2, ![1536, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S7x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_116 : BitVec 32 := 0#32
  let c0_i32_114 : BitVec 32 := 0#32
  let c1_i32_115 : BitVec 32 := 1#32
  let v235 : BitVec 32 := Scalar.muli c0_i32_114 c1_i32_115
  let v236 : BitVec 32 := Scalar.addi c0_i32_116 v235
  v236.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_116 : BitVec 32 := 0#32
  let c1_i32_114 : BitVec 32 := 1#32
  let c1_i32_115 : BitVec 32 := 1#32
  let v235 : BitVec 32 := Scalar.muli c1_i32_114 c1_i32_115
  let v236 : BitVec 32 := Scalar.addi c0_i32_116 v235
  v236.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_116 : BitVec 32 := 0#32
  let c2_i32_114 : BitVec 32 := 2#32
  let c1_i32_115 : BitVec 32 := 1#32
  let v235 : BitVec 32 := Scalar.muli c2_i32_114 c1_i32_115
  let v236 : BitVec 32 := Scalar.addi c0_i32_116 v235
  v236.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_116 : BitVec 32 := 0#32
  let c3_i32_114 : BitVec 32 := 3#32
  let c1_i32_115 : BitVec 32 := 1#32
  let v235 : BitVec 32 := Scalar.muli c3_i32_114 c1_i32_115
  let v236 : BitVec 32 := Scalar.addi c0_i32_116 v235
  v236.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_116 : BitVec 32 := 0#32
  let c4_i32_114 : BitVec 32 := 4#32
  let c1_i32_115 : BitVec 32 := 1#32
  let v235 : BitVec 32 := Scalar.muli c4_i32_114 c1_i32_115
  let v236 : BitVec 32 := Scalar.addi c0_i32_116 v235
  v236.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_116 : BitVec 32 := 0#32
  let c5_i32_114 : BitVec 32 := 5#32
  let c1_i32_115 : BitVec 32 := 1#32
  let v235 : BitVec 32 := Scalar.muli c5_i32_114 c1_i32_115
  let v236 : BitVec 32 := Scalar.addi c0_i32_116 v235
  v236.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_116 : BitVec 32 := 0#32
  let c6_i32_114 : BitVec 32 := 6#32
  let c1_i32_115 : BitVec 32 := 1#32
  let v235 : BitVec 32 := Scalar.muli c6_i32_114 c1_i32_115
  let v236 : BitVec 32 := Scalar.addi c0_i32_116 v235
  v236.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_116 : BitVec 32 := 0#32
  let c7_i32_114 : BitVec 32 := 7#32
  let c1_i32_115 : BitVec 32 := 1#32
  let v235 : BitVec 32 := Scalar.muli c7_i32_114 c1_i32_115
  let v236 : BitVec 32 := Scalar.addi c0_i32_116 v235
  v236.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v66 : BitVec 32 := Scalar.addi v2 c1_i32_13
  let c8_i32_14 : BitVec 32 := 8#32
  let v67 : BitVec 1 := Scalar.cmpi .slt v66 c8_i32_14
  let v68 : BitVec 32 := Scalar.extui v67
  let c0_i32_15 : BitVec 32 := 0#32
  let v69 : BitVec 1 := Scalar.cmpi .ne v68 c0_i32_15
  v69

def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_113 : BitVec 32 := 1#32
  let v235 : BitVec 32 := Scalar.addi v2 c1_i32_113
  let c1_i32_117 : BitVec 32 := 1#32
  let v236 : BitVec 32 := Scalar.muli v235 c1_i32_117
  let v237 : BitVec 32 := Scalar.addi c0_i32_118 v236
  v237.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_16 : BitVec 32 := 2#32
  let v70 : BitVec 32 := Scalar.addi v2 c2_i32_16
  let c8_i32_17 : BitVec 32 := 8#32
  let v71 : BitVec 1 := Scalar.cmpi .slt v70 c8_i32_17
  let v72 : BitVec 32 := Scalar.extui v71
  let c0_i32_18 : BitVec 32 := 0#32
  let v73 : BitVec 1 := Scalar.cmpi .ne v72 c0_i32_18
  v73

def k0_dev10 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_113 : BitVec 32 := 2#32
  let v235 : BitVec 32 := Scalar.addi v2 c2_i32_113
  let c1_i32_117 : BitVec 32 := 1#32
  let v236 : BitVec 32 := Scalar.muli v235 c1_i32_117
  let v237 : BitVec 32 := Scalar.addi c0_i32_118 v236
  v237.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_19 : BitVec 32 := 3#32
  let v74 : BitVec 32 := Scalar.addi v2 c3_i32_19
  let c8_i32_20 : BitVec 32 := 8#32
  let v75 : BitVec 1 := Scalar.cmpi .slt v74 c8_i32_20
  let v76 : BitVec 32 := Scalar.extui v75
  let c0_i32_21 : BitVec 32 := 0#32
  let v77 : BitVec 1 := Scalar.cmpi .ne v76 c0_i32_21
  v77

def k0_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_113 : BitVec 32 := 3#32
  let v235 : BitVec 32 := Scalar.addi v2 c3_i32_113
  let c1_i32_117 : BitVec 32 := 1#32
  let v236 : BitVec 32 := Scalar.muli v235 c1_i32_117
  let v237 : BitVec 32 := Scalar.addi c0_i32_118 v236
  v237.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v78 : BitVec 32 := Scalar.addi v2 c4_i32_22
  let c8_i32_23 : BitVec 32 := 8#32
  let v79 : BitVec 1 := Scalar.cmpi .slt v78 c8_i32_23
  let v80 : BitVec 32 := Scalar.extui v79
  let c0_i32_24 : BitVec 32 := 0#32
  let v81 : BitVec 1 := Scalar.cmpi .ne v80 c0_i32_24
  v81

def k0_dev12 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_113 : BitVec 32 := 4#32
  let v235 : BitVec 32 := Scalar.addi v2 c4_i32_113
  let c1_i32_117 : BitVec 32 := 1#32
  let v236 : BitVec 32 := Scalar.muli v235 c1_i32_117
  let v237 : BitVec 32 := Scalar.addi c0_i32_118 v236
  v237.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_25 : BitVec 32 := 5#32
  let v82 : BitVec 32 := Scalar.addi v2 c5_i32_25
  let c8_i32_26 : BitVec 32 := 8#32
  let v83 : BitVec 1 := Scalar.cmpi .slt v82 c8_i32_26
  let v84 : BitVec 32 := Scalar.extui v83
  let c0_i32_27 : BitVec 32 := 0#32
  let v85 : BitVec 1 := Scalar.cmpi .ne v84 c0_i32_27
  v85

def k0_dev13 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_113 : BitVec 32 := 5#32
  let v235 : BitVec 32 := Scalar.addi v2 c5_i32_113
  let c1_i32_117 : BitVec 32 := 1#32
  let v236 : BitVec 32 := Scalar.muli v235 c1_i32_117
  let v237 : BitVec 32 := Scalar.addi c0_i32_118 v236
  v237.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_28 : BitVec 32 := 6#32
  let v86 : BitVec 32 := Scalar.addi v2 c6_i32_28
  let c8_i32_29 : BitVec 32 := 8#32
  let v87 : BitVec 1 := Scalar.cmpi .slt v86 c8_i32_29
  let v88 : BitVec 32 := Scalar.extui v87
  let c0_i32_30 : BitVec 32 := 0#32
  let v89 : BitVec 1 := Scalar.cmpi .ne v88 c0_i32_30
  v89

def k0_dev14 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_113 : BitVec 32 := 6#32
  let v235 : BitVec 32 := Scalar.addi v2 c6_i32_113
  let c1_i32_117 : BitVec 32 := 1#32
  let v236 : BitVec 32 := Scalar.muli v235 c1_i32_117
  let v237 : BitVec 32 := Scalar.addi c0_i32_118 v236
  v237.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_31 : BitVec 32 := 7#32
  let v90 : BitVec 32 := Scalar.addi v2 c7_i32_31
  let c8_i32_32 : BitVec 32 := 8#32
  let v91 : BitVec 1 := Scalar.cmpi .slt v90 c8_i32_32
  let v92 : BitVec 32 := Scalar.extui v91
  let c0_i32_33 : BitVec 32 := 0#32
  let v93 : BitVec 1 := Scalar.cmpi .ne v92 c0_i32_33
  v93

def k0_dev15 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_113 : BitVec 32 := 7#32
  let v235 : BitVec 32 := Scalar.addi v2 c7_i32_113
  let c1_i32_117 : BitVec 32 := 1#32
  let v236 : BitVec 32 := Scalar.muli v235 c1_i32_117
  let v237 : BitVec 32 := Scalar.addi c0_i32_118 v236
  v237.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S16384x1024, .f32⟩
  | .hbm, ⟨5, _⟩ => ⟨S_, .i32⟩
  | .hbm, ⟨6, _⟩ => ⟨S16384x1024, .f32⟩
  | .hbm, ⟨7, _⟩ => ⟨S_, .i32⟩
  | .hbm, ⟨8, _⟩ => ⟨S1024, .f32⟩
  | .hbm, ⟨9, _⟩ => ⟨S16384x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S16384x1024, .f32⟩
  | .hbm, ⟨19, _⟩ => ⟨S_, .i32⟩
  | .hbm, ⟨20, _⟩ => ⟨S_, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 16384#32, 1#32⟩
-- ==== Proof.Same.lean ====
/-
# The kernel and the idealized kernel are one program

No rewriting was needed to idealize the kernel, so the two programs are the same but for the names they are printed
under. A run of the one is a run of the other, and what is proved of the idealized kernel holds of the kernel.
-/
module

public import proofs.«01_k».proof.Defs
public import proofs.«01_k».proof.Proof.Gen.Kernel
public import proofs.«01_k».proof.Proof.Gen.KernelIdeal

@[expose] public section

namespace Cert.Same

open Idealize.ShloMosaic Idealize.SL.Sem

variable {F : FTy → Type} [FloatOps F] [Cert.Kernel.Facts] [Cert.KernelIdeal.Facts]

/-- The two programs have the same kernel body; -/
theorem bodies : Cert.Kernel.defs₀ (F := F) = Cert.KernelIdeal.defs₀ (F := F) := by
  unfold Cert.Kernel.defs₀ Cert.KernelIdeal.defs₀
  refine congrArg Defs.onTc ?_
  funext l a
  obtain ⟨l, hl⟩ := l
  match l, hl, a with
  | 0, _, (t, s) => rfl
  | n + 1, hl, _ => exact absurd hl (by omega)

/-- the same definitions around it; -/
theorem definitions : Cert.Kernel.defs (F := F) = Cert.KernelIdeal.defs (F := F) :=
  congrArg (Pipeline.defs Cert.KernelIdeal.pcfgs) (bodies (F := F))

/-- and so the same runs, from the same memory and for the same outcomes. -/
theorem runs (m : (ℓ : Loc Cert.KernelIdeal.nD Cert.KernelIdeal.τ Cert.KernelIdeal.sig) → Buf (Elt F) ℓ)
    (ρ : Dev Cert.KernelIdeal.nD → PrngReg) (Q : _ → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [definitions]; exact h

end Cert.Same
-- ==== Proof.Columns.lean ====
/-
# Products down the columns

The mathematics of the scan, for arrays of any number of rows over the extended reals: what halving an array by
multiplying its halves does to a column's product, and what one pass of the shifted multiplication does to each
element.
-/
module

public import Idealize.ShloMosaic.Lib.ValueIdx
public import Idealize.ShloMosaic.Lib.ValueLayout
public import Idealize.ShloMosaic.Lib.Pipeline.Value
public import Idealize.ShloMosaic.Lib.IdealHost
public import Mathlib.Algebra.BigOperators.Intervals

@[expose] public section

noncomputable section

namespace Cert.Columns

open Idealize.ShloMosaic Idealize.ShloMosaic.ValueIdx Finset

/-- The shape of `n` rows of 1024. -/
abbrev Rows (n : ℕ) : Shape := ⟨2, ![n, 1024]⟩

/-- Row `i` of column `j`, and one past the last row. -/
def cell {n : ℕ} (x : FVec Ideal (Rows n) .f32) (i : ℕ) (j : Fin 1024) : EReal :=
  if h : i < n then x (ix2 ⟨i, h⟩ j) else 1

theorem cell_of_lt {n : ℕ} (x : FVec Ideal (Rows n) .f32) {i : ℕ} (h : i < n) (j : Fin 1024) : cell x i j = x (ix2 ⟨i, h⟩ j) := dif_pos h
theorem cell_val {n : ℕ} (x : FVec Ideal (Rows n) .f32) (i : Fin n) (j : Fin 1024) : cell x i.val j = x (ix2 i j) := cell_of_lt x i.isLt j

/-- The product of the first `k` rows of column `j`. -/
def above {n : ℕ} (x : FVec Ideal (Rows n) .f32) (k : ℕ) (j : Fin 1024) : EReal := ∏ i ∈ range k, cell x i j

/-- The product of the whole of column `j`. -/
def total {n : ℕ} (x : FVec Ideal (Rows n) .f32) (j : Fin 1024) : EReal := above x n j

/-- The constant row of ones is one everywhere. -/
theorem one_bits : (Scalar.ofBits .f32 0x3F800000#32 : Ideal .f32) = (1 : EReal) := Ideal.ofBits_one_f32

/-! ## Halving -/

/-- The total of a single row is that row. -/
theorem total_one (x : FVec Ideal (Rows 1) .f32) (j : Fin 1024) : total x j = x (ix2 0 j) := by
  unfold total above
  rw [prod_range_one, cell_of_lt x Nat.one_pos]; rfl

/-- A run of rows is read as that run of cells. -/
theorem cell_slice {n k o : ℕ} (x : FVec Ideal (Rows n) .f32) (h : (Rows n).Slices ![o, 0] (Rows k)) {i : ℕ} (hi : i < k) (hn : o + i < n) (j : Fin 1024) :
    cell (extractStridedSlice (Rows k) ![o, 0] x h) i j = cell x (o + i) j := by
  rw [cell_of_lt _ hi, cell_of_lt _ hn]
  refine extractStridedSlice_apply _ _ _ _ _ fun a => ?_
  match a with
  | ⟨0, _⟩ => rfl
  | ⟨1, _⟩ => exact (Nat.zero_add _).symm

theorem cell_mulf {n : ℕ} (x y : FVec Ideal (Rows n) .f32) {i : ℕ} (hi : i < n) (j : Fin 1024) : cell (mulf x y) i j = cell x i j * cell y i j := by
  rw [cell_of_lt _ hi, cell_of_lt _ hi, cell_of_lt _ hi]; rfl

/-- Multiplying the lower half of the rows into the upper half keeps every column's total. -/
theorem total_halve {n k : ℕ} (hn : k + k = n) (x : FVec Ideal (Rows n) .f32) (h₀ : (Rows n).Slices ![0, 0] (Rows k)) (h₁ : (Rows n).Slices ![k, 0] (Rows k))
    (j : Fin 1024) : total (mulf (extractStridedSlice (Rows k) ![0, 0] x h₀) (extractStridedSlice (Rows k) ![k, 0] x h₁)) j = total x j := by
  subst hn
  unfold total above
  rw [prod_range_add, ← prod_mul_distrib]
  refine prod_congr rfl fun i hi => ?_
  have hi := mem_range.mp hi
  rw [cell_mulf _ _ hi, cell_slice x h₀ hi (by omega), cell_slice x h₁ hi (by omega), Nat.zero_add]

/-! ## The shifted multiplication -/

/-- `d` rows of ones above the array: its rows move down by `d`. -/
theorem cell_shift {n d k : ℕ} (x : FVec Ideal (Rows n) .f32) (h : (Rows n).Slices ![0, 0] (Rows k)) (hc : Shape.Concatenates [Rows d, Rows k] (Rows n) 0)
    (hk : d + k = n) {i : ℕ} (hi : i < n) (j : Fin 1024) :
    cell (concatenate (Rows n) 0 [⟨Rows d, broadcast (Rows d) (Scalar.ofBits .f32 0x3F800000#32 : Ideal .f32)⟩, ⟨Rows k, extractStridedSlice (Rows k) ![0, 0] x h⟩] hc) i j
      = if i < d then 1 else cell x (i - d) j := by
  rw [cell_of_lt _ hi]
  by_cases hd : i < d
  · rw [if_pos hd, concatenate_pair_apply_left (t := Rows n) (0 : Fin 2) _ _ hc (ix2 ⟨i, hi⟩ j) rfl (ix2 ⟨i, hd⟩ j) (fun b => by
      match b with
      | ⟨0, _⟩ => rfl
      | ⟨1, _⟩ => rfl)]
    exact one_bits
  · rw [if_neg hd, concatenate_pair_apply_right (t := Rows n) (0 : Fin 2) _ _ hc (ix2 ⟨i, hi⟩ j) rfl rfl (ix2 ⟨i - d, by omega⟩ j) (fun b hb => by
      match b with
      | ⟨0, _⟩ => exact absurd rfl hb
      | ⟨1, _⟩ => rfl) (show i - d + d = i by omega)]
    rw [← cell_of_lt (extractStridedSlice (Rows k) ![0, 0] x h) (show i - d < k by omega) j, cell_slice x h (by omega) (by omega), Nat.zero_add]

/-- Every element of `v` is the product of the last `w` elements of `x` up to it, fewer near the top. -/
def Window {n : ℕ} (x v : FVec Ideal (Rows n) .f32) (w : ℕ) : Prop :=
  ∀ i < n, ∀ j, cell v i j = ∏ k ∈ Ico (i + 1 - w) (i + 1), cell x k j

/-- An array is so of itself, with one element. -/
theorem Window.self {n : ℕ} (x : FVec Ideal (Rows n) .f32) : Window x x 1 := fun i _ j => by
  rw [Nat.add_sub_cancel, Nat.Ico_succ_singleton, prod_singleton]

/-- Multiplying by the array moved down `d` rows doubles windows of `d`. -/
theorem Window.double {n d k : ℕ} {x v : FVec Ideal (Rows n) .f32} (hv : Window x v d) (h : (Rows n).Slices ![0, 0] (Rows k))
    (hc : Shape.Concatenates [Rows d, Rows k] (Rows n) 0) (hk : d + k = n) :
    Window x (mulf v (concatenate (Rows n) 0 [⟨Rows d, broadcast (Rows d) (Scalar.ofBits .f32 0x3F800000#32 : Ideal .f32)⟩, ⟨Rows k, extractStridedSlice (Rows k) ![0, 0] v h⟩] hc)) (d + d) :=
  fun i hi j => by
    rw [cell_mulf _ _ hi, cell_shift v h hc hk hi, hv i hi]
    by_cases hd : i < d
    · rw [if_pos hd, mul_one, show i + 1 - d = 0 by omega, show i + 1 - (d + d) = 0 by omega]
    · rw [if_neg hd, hv (i - d) (by omega), mul_comm, show i - d + 1 - d = i + 1 - (d + d) by omega, show i - d + 1 = i + 1 - d by omega]
      exact prod_Ico_consecutive _ (by omega) (by omega)

/-- A window of all the rows is the product of everything down to the element. -/
theorem Window.whole {n : ℕ} {x v : FVec Ideal (Rows n) .f32} (hv : Window x v n) {i : ℕ} (hi : i < n) (j : Fin 1024) : cell v i j = above x (i + 1) j := by
  unfold above
  rw [hv i hi, show i + 1 - n = 0 by omega, range_eq_Ico]

/-! ## Blocks of rows -/

/-- The product of the first `c` blocks of `n` rows is the product of their totals. -/
theorem above_blocks {n N : ℕ} (X : FVec Ideal (Rows N) .f32) (x : ℕ → FVec Ideal (Rows n) .f32) (j : Fin 1024) :
    ∀ c, (∀ b < c, ∀ i < n, cell (x b) i j = cell X (b * n + i) j) → above X (c * n) j = ∏ b ∈ range c, total (x b) j
  | 0, _ => by unfold above; rw [Nat.zero_mul, prod_range_zero, prod_range_zero]
  | c + 1, h => by
    rw [prod_range_succ, ← above_blocks X x j c fun b hb => h b (by omega)]
    unfold above total above
    rw [Nat.succ_mul, prod_range_add]
    exact congrArg _ (prod_congr rfl fun i hi => (h c (by omega) i (mem_range.mp hi)).symm)

/-- Down to row `i` of block `c`: the totals of the blocks before it, and its own rows. -/
theorem above_in_block {n N : ℕ} (X : FVec Ideal (Rows N) .f32) (x : ℕ → FVec Ideal (Rows n) .f32) (j : Fin 1024) (c : ℕ)
    (h : ∀ b < c + 1, ∀ i < n, cell (x b) i j = cell X (b * n + i) j) {i : ℕ} (hi : i < n) :
    above X (c * n + i + 1) j = above (x c) (i + 1) j * ∏ b ∈ range c, total (x b) j := by
  rw [← above_blocks X x j c fun b hb => h b (by omega), mul_comm (above (x c) (i + 1) j)]
  unfold above
  rw [Nat.add_assoc, prod_range_add]
  exact congrArg _ (prod_congr rfl fun k hk => (h c (by omega) k (by have := mem_range.mp hk; omega)).symm)

/-- The totals of the blocks before the `c`-th, taken from the nearest to the farthest, with ones for those there are not. -/
theorem prod_nearest (T : ℕ → EReal) {c m : ℕ} (hc : c ≤ m) : (∏ k ∈ range m, if k + 1 ≤ c then T (c - 1 - k) else 1) = ∏ b ∈ range c, T b := by
  rw [← prod_range_reflect T c, ← prod_subset (range_mono hc) fun k _ hk => if_neg (by have := mt mem_range.mpr hk; omega)]
  exact prod_congr rfl fun k hk => if_pos (by have := mem_range.mp hk; omega)

end Cert.Columns
-- ==== Proof.RefScan.lean ====
/-
# What the reference computes

The reference goes down the rows, multiplying each into a running row of products and writing that row out. Before its
`n`-th step the running row holds the products of the first `n` rows, and the rows written so far hold the products down
to them.
-/
module

public import proofs.«01_k».proof.Proof.Columns
public import proofs.«01_k».proof.Proof.Gen.ReferenceIdeal.Step
public import proofs.«01_k».proof.Proof.Gen.ReferenceIdeal.Run
public import Idealize.ShloMosaic.Lib.Pointwise.ShapeOpsCore

@[expose] public section

noncomputable section

namespace Cert.RefScan

open Idealize.ShloMosaic hiding ix1 ix2 eq_ix2
open Idealize.ShloMosaic.TcCoe Idealize.ShloMosaic.StableHlo Idealize.ShloMosaic.ValueIdx Idealize.SL.Sem Cert.ReferenceIdeal Cert.ReferenceIdeal.Gen Cert.ReferenceIdeal.Step Cert.Columns Finset

/-- The product of every column down to each element: the result. -/
def scan (X : FVec Ideal (Rows 16384) .f32) : FVec Ideal (Rows 16384) .f32 := fun i => above X ((i 0).val + 1) (i 1)

/-- The states of the loop, one after another. -/
def state (s : State Ideal) : ℕ → State Ideal
  | 0 => s
  | n + 1 => step n (state s n)

/-- The loop's counter as a word is the number of the step. -/
theorem counter {n : ℕ} (h : n < 16384) : (BitVec.ofNat 32 n).toInt = (n : Int) := by
  rw [BitVec.toInt_eq_toNat_of_lt] <;> rw [BitVec.toNat_ofNat, Nat.mod_eq_of_lt (by omega)]
  omega

/-- A row in the array is where a slice of one row starts, -/
theorem start_row {n : ℕ} (h : n < 16384) {start : Fin S16384x1024.rank → Int} (hs : start 0 = (n : Int)) (hr : S1x1024.rank = S16384x1024.rank) :
    Host.clampedStart S16384x1024 S1x1024 hr start 0 = n :=
  Host.clampedStart_of_le hr start 0 n hs (show n + 1 ≤ 16384 from h)
/-- at the first column. -/
theorem start_col {start : Fin S16384x1024.rank → Int} (hs : start 1 = 0) (hr : S1x1024.rank = S16384x1024.rank) :
    Host.clampedStart S16384x1024 S1x1024 hr start 1 = 0 :=
  Host.clampedStart_of_le hr start 1 0 hs (show 0 + 1024 ≤ 1024 by decide)

/-- The row a step reads. -/
theorem b1_apply (n : ℕ) (h : n < 16384) (s : State Ideal) (j : Fin 1024) : b1 n s (ix2 0 j) = s.main_v2_0 (ix2 ⟨n, h⟩ j) := by
  unfold b1
  rw [Host.dynamicSlice_apply]
  refine congrArg s.main_v2_0 (funext fun a => Fin.ext ?_)
  match a with
  | ⟨0, _⟩ =>
    show Host.clampedStart S16384x1024 S1x1024 _ _ 0 + 0 = n
    rw [start_row h (counter h), Nat.add_zero]
  | ⟨1, _⟩ =>
    show Host.clampedStart S16384x1024 S1x1024 _ _ 1 + j.val = j.val
    rw [start_col rfl, Nat.zero_add]

/-- The running row after a step. -/
theorem b3_apply (n : ℕ) (h : n < 16384) (s : State Ideal) (j : Fin 1024) :
    b3 n s (ix1 j) = s.main_v2_2 (ix1 j) * s.main_v2_0 (ix2 ⟨n, h⟩ j) := by
  unfold b3
  rw [mulf_apply]
  refine congrArg _ ?_
  unfold b2
  rw [shapeCast_1a_a_apply, b1_apply n h]

/-- The running row as the row written. -/
theorem b4_apply (n : ℕ) (s : State Ideal) (j : Fin 1024) : b4 n s (ix2 0 j) = b3 n s (ix1 j) := by
  unfold b4
  refine broadcastInDim_apply _ _ _ _ _ fun a => ?_
  match a with
  | ⟨0, _⟩ => rfl

/-- The array after a step: the step's row replaced. -/
theorem b6_apply (n : ℕ) (h : n < 16384) (s : State Ideal) (i : Fin 16384) (j : Fin 1024) :
    b6 n s (ix2 i j) = if i.val = n then b3 n s (ix1 j) else s.main_v2_3 (ix2 i j) := by
  unfold b6
  rw [Host.dynamicUpdateSlice_apply]
  by_cases hi : i.val = n
  · rw [if_pos hi, dif_pos fun a => ?_]
    · rw [← b4_apply]
      refine congrArg _ (funext fun b => Fin.ext ?_)
      match b with
      | ⟨0, _⟩ => show i.val - Host.clampedStart S16384x1024 S1x1024 _ _ 0 = 0; rw [start_row h (counter h)]; omega
      | ⟨1, _⟩ => show j.val - Host.clampedStart S16384x1024 S1x1024 _ _ 1 = j.val; rw [start_col rfl]; omega
    · match a with
      | ⟨0, _⟩ =>
        show Host.clampedStart S16384x1024 S1x1024 _ _ 0 ≤ i.val ∧ i.val < Host.clampedStart S16384x1024 S1x1024 _ _ 0 + 1
        rw [start_row h (counter h)]; omega
      | ⟨1, _⟩ =>
        show Host.clampedStart S16384x1024 S1x1024 _ _ 1 ≤ j.val ∧ j.val < Host.clampedStart S16384x1024 S1x1024 _ _ 1 + 1024
        rw [start_col rfl]; have := j.isLt; omega
  · rw [if_neg hi, dif_neg fun hin => hi ?_]
    have h0 : Host.clampedStart S16384x1024 S1x1024 _ _ 0 ≤ i.val ∧ i.val < Host.clampedStart S16384x1024 S1x1024 _ _ 0 + 1 := hin 0
    rw [start_row h (counter h)] at h0; omega

/-- What the loop's state holds after `n` steps. -/
theorem state_spec (X : FVec Ideal (Rows 16384) .f32) : ∀ n ≤ 16384,
    (state (init X) n).main_v2_0 = X ∧ (∀ j, (state (init X) n).main_v2_2 (ix1 j) = above X n j)
      ∧ ∀ i j, i.val < n → (state (init X) n).main_v2_3 (ix2 i j) = above X (i.val + 1) j
  | 0, _ => ⟨rfl, fun j => by
      unfold above; rw [prod_range_zero]
      exact Ideal.ofBits_one_f32, fun i j h => absurd h (Nat.not_lt_zero _)⟩
  | n + 1, hn => by
    obtain ⟨hx, hr, ho⟩ := state_spec X n (by omega)
    have hrow (j : Fin 1024) : b3 n (state (init X) n) (ix1 j) = above X (n + 1) j := by
      rw [b3_apply n hn, hr, hx]; unfold above; rw [prod_range_succ, cell_of_lt X hn]
    refine ⟨hx, hrow, fun i j hi => ?_⟩
    show b6 n (state (init X) n) (ix2 i j) = _
    rw [b6_apply n hn]
    split
    · rename_i h; rw [hrow, h]
    · exact ho i j (by omega)

/-! ## The loop's buffers -/

/-- The state the loop's buffers hold. -/
def held (V : Valuation τ sig (Elt Ideal)) : State Ideal where
  main_v2_2 := V (Proc.devRef .tc main_v2_2)
  main_v2_3 := V (Proc.devRef .tc main_v2_3)
  main_v2_0 := V (Proc.devRef .tc main_v2_0)

/-- One time round the loop is one step of the state, with the next number in the counter. -/
theorem held_step (V : Valuation τ sig (Elt Ideal)) (n : ℕ) (hn : V (Proc.devRef .tc main_v2_1) = constantI S_ 32 (BitVec.ofNat 32 n)) :
    held (Value.STEP V) = step n (held V) ∧ Value.STEP V (Proc.devRef .tc main_v2_1) = constantI S_ 32 (BitVec.ofNat 32 (n + 1)) := by
  refine ⟨?_, ?_⟩
  · unfold held
    rw [Value.STEP_main_v2_0, Value.STEP_main_v2_2, Value.STEP_main_v2_3]
    unfold Value.step_main_v2_2 Value.step_main_v2_3 Value.res_main_while0b_v4
    rw [hn]
    rfl
  · rw [Value.STEP_main_v2_1]
    unfold Value.step_main_v2_1
    rw [hn]
    funext i
    exact (BitVec.ofNat_add n 1).symm

/-- So after `n` times round they hold the `n`-th state. -/
theorem held_iterate (V : Valuation τ sig (Elt Ideal)) (h0 : V (Proc.devRef .tc main_v2_1) = constantI S_ 32 (BitVec.ofNat 32 0)) : ∀ n,
    held (Value.STEP^[n] V) = state (held V) n ∧ Value.STEP^[n] V (Proc.devRef .tc main_v2_1) = constantI S_ 32 (BitVec.ofNat 32 n)
  | 0 => ⟨rfl, h0⟩
  | n + 1 => by
    obtain ⟨h, hn⟩ := held_iterate V h0 n
    rw [Function.iterate_succ_apply']
    have := held_step _ n hn
    exact ⟨this.1.trans (congrArg (step n) h), this.2⟩

set_option maxRecDepth 65536 in
/-- They enter the loop holding ones, the result's buffer and the input, with zero in the counter. -/
theorem held_entry (m : (ℓ : Loc nD τ sig) → Buf (Elt Ideal) ℓ) (c : Dev nD) :
    held (entryContents Value.preI m c) = init (m ((c.tc : Thread nD τ).loc main_arg0))
      ∧ entryContents Value.preI m c (Proc.devRef .tc main_v2_1) = constantI S_ 32 (BitVec.ofNat 32 0) := by
  unfold held init
  constructor <;> (simp only [entryContents, afterL_cons, afterL_nil]; after_reads_simp) <;> rfl

/-- After as many times round as there are rows the result's buffer holds the columns' products. -/
theorem held_result (m : (ℓ : Loc nD τ sig) → Buf (Elt Ideal) ℓ) (c : Dev nD) (n : ℕ) (hn : n = 16384) :
    Value.STEP^[n] (entryContents Value.preI m c) (Proc.devRef .tc main_v2_3) = scan (m ((c.tc : Thread nD τ).loc main_arg0)) := by
  obtain ⟨he, h0⟩ := held_entry m c
  have hs := (held_iterate _ h0 n).1
  rw [he] at hs
  refine (congrArg State.main_v2_3 hs).trans (funext fun i => ?_)
  rw [ValueIdx.eq_ix2 i]
  exact (state_spec _ n hn.le).2.2 _ _ (lt_of_lt_of_eq (i 0).isLt hn.symm)

/-- From any memory with zero counters, every run of the reference ends with the columns' products in its result, and its
    input as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_3) = scan (m ((c.tc : Thread nD τ).loc main_arg0))
        ∧ r.2.mem ((c.tc : Thread nD τ).loc main_arg0) = m ((c.tc : Thread nD τ).loc main_arg0) :=
  (θ_run defs _ _).mono (fun _ h c => ⟨(h c).1.trans (held_result m c 16384 rfl), (h c).2⟩) (Value.run m ρ)

end Cert.RefScan
-- ==== Proof.Cells.lean ====
/-
# The cells of the exchange and the rounds they go through

Every device tells every other one that its landing buffer is ready (one unit on the other's barrier cell), waits
for seven units on its own, and then copies its column totals into slot `k` of the device `k + 1` places up the line,
for each `k` for which there is one. Slot `k` of a device therefore receives the totals of the device `k + 1` places
down the line. Every cell goes through ONE round:

* the barrier cell of `c`: a duty for every other device `r`, one unit each. A device `r` above `c` hands over the
  slot of its landing buffer that `c` will write; a device below hands over nothing;
* the receive cell `k` of `c`, if `k + 1 ≤ c`: one duty, a row's credit, paid by the copy from `k + 1` places down;
  it hands over slot `k` holding that device's totals. Otherwise it has no duty and nobody touches it;
* the send cell `k` of `c`, if there is a device `k + 1` places up: one duty, a row's credit; it gives back the share
  of the send buffer that the copy was reading.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra: the staging cells' copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The line of devices -/

/-- The device `k + 1` places up from `c`, around the end. -/
def up (c : Dev nD) (k : Fin 7) : Dev nD := ⟨(c.val + k.val + 1) % 8, Nat.mod_lt _ (by decide)⟩
/-- The device `k + 1` places down from `c`, around the end. -/
def down (c : Dev nD) (k : Fin 7) : Dev nD := ⟨(c.val + 7 - k.val) % 8, Nat.mod_lt _ (by decide)⟩
/-- The slot of `r` that `c` writes, for `c` below `r`. -/
def gap (c r : Dev nD) : Fin 7 := ⟨(r.val - c.val - 1) % 7, Nat.mod_lt _ (by decide)⟩

theorem down_up (c : Dev nD) (k : Fin 7) : down (up c k) k = c := by revert c k; decide
theorem up_down (c : Dev nD) (k : Fin 7) : up (down c k) k = c := by revert c k; decide

/-- For each slot, going up is a permutation of the devices. -/
def upEquiv (k : Fin 7) : Dev nD ≃ Dev nD := ⟨fun c => up c k, fun c => down c k, fun c => down_up c k, fun c => up_down c k⟩

/-- Device `c` has a device `k + 1` places below it: something lands in its slot `k`. -/
abbrev HasDown (c : Dev nD) (k : Fin 7) : Prop := k.val + 1 ≤ c.val
/-- Device `c` has a device `k + 1` places above it: it makes a copy of number `k`. -/
abbrev HasUp (c : Dev nD) (k : Fin 7) : Prop := c.val + k.val + 1 < 8

theorem hasDown_up {c : Dev nD} {k : Fin 7} (h : HasUp c k) : HasDown (up c k) k := by revert c k; decide
theorem hasUp_down {c : Dev nD} {k : Fin 7} (h : HasDown c k) : HasUp (down c k) k := by revert c k; decide
theorem hasDown_of_up {c : Dev nD} {k : Fin 7} (h : HasDown (up c k) k) : HasUp c k := by revert c k; decide

/-! ## The buffers and the semaphores -/

abbrev xM : Memref sig .tc .vmem S2048x1024 .f32 := Memref.whole cc0_stg0_0
abbrev oM : Memref sig .tc .vmem S2048x1024 .f32 := Memref.whole cc0_stg1_0
abbrev sM : Memref sig .tc .vmem S1x1024 .f32 := Memref.whole cc0_scratch0
abbrev rM : Memref sig .tc .vmem S7x1x1024 .f32 := Memref.whole cc0_scratch1

theorem slot_inb (k : Fin 7) : ∀ a, (![k.val, 0, 0] : Fin 3 → Nat) a + S1x1x1024.size a ≤ S7x1x1024.size a := by
  revert k; decide

/-- The rectangle of the landing buffer that is slot `k`. -/
abbrev slotRect (k : Fin 7) : Rect S7x1x1024 := Rect.unit (s := S7x1x1024) ![k.val, 0, 0] S1x1x1024.size (slot_inb k)
/-- Slot `k` of the landing buffer, as the row a copy writes. -/
abbrev slotM (k : Fin 7) : Memref sig .tc .vmem S1x1024 .f32 :=
  (rM.slice (slotRect k) (fun _ => rfl)).squeeze S1x1024 squeezes_S1x1x1024_S1x1024

/-- The runtime's barrier semaphore, and the send and receive semaphores of number `k`. -/
abbrev barS : Sem sig := (SemArray.scalar (sig.barrier 0 rfl) : Sems sig S_).sem
def sendS (k : Fin 7) : DmaSem sig := ⟨2 + k.val, by have := k.isLt; show 2 + k.val < 16; omega⟩
def recvS (k : Fin 7) : DmaSem sig := ⟨9 + k.val, by have := k.isLt; show 9 + k.val < 16; omega⟩

/-- The cells of one device: the barrier's, the seven send cells, the seven receive cells. -/
abbrev OIx : Type := Fin 7 ⊕ Fin 7
abbrev CIx : Type := Unit ⊕ OIx

/-- The kernel's own semaphores; -/
abbrev osem : OIx → SemLoc sig := fun | .inl k => .dma (sendS k) | .inr k => .dma (recvS k)
/-- and with the barrier's, all of the exchange's. -/
abbrev csem : CIx → SemLoc sig := fun | .inl _ => .reg barS | .inr j => osem j
abbrev kcell (ck : Dev nD × CIx) : GSem nD τ sig := ((ck.1 : Thread nD τ), csem ck.2)

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- A row's credit on a DMA semaphore. -/
abbrev N : ℕ := (sM : Memref sig .tc .vmem S1x1024 .f32).view.dmaCredit
theorem N_pos : 0 < N := View.dmaCredit_pos _ (by decide)
theorem slot_credit (k : Fin 7) : (slotM k).view.dmaCredit = N := rfl

/-! ## Contents -/

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s row of column totals. -/
def tot (c : Dev nD) : FVec F S1x1024 .f32 := k0_pay1 (xstg m ρ c)

def slotPts (c : Dev nD) (k : Fin 7) (f : Buf (Elt F) ((slotM k).view.loc (c : Thread nD τ))) : sProp 𝕄 :=
  (slotM k).view.loc (c : Thread nD τ) ↦[(slotM k).view.set]{fullShare} f
/-- Slot `k` of `c` at some contents; -/
def slotAny (c : Dev nD) (k : Fin 7) : sProp 𝕄 := iprop(∃ f, slotPts (F := F) c k f)
/-- slot `k` of `c` holding the row `v`. -/
def slotVal (c : Dev nD) (k : Fin 7) (v : FVec F S1x1024 .f32) : sProp 𝕄 :=
  iprop(∃ f, ⌜(slotM k).view.read (Elt F) f = v⌝ ∗ slotPts (F := F) c k f)
/-- A share `q` of the send buffer of `c`, holding the row `v`. -/
def sendPts (c : Dev nD) (q : PosShare TreeShare) (v : FVec F S1x1024 .f32) : sProp 𝕄 :=
  (sM : Memref sig .tc .vmem S1x1024 .f32).view.loc (c : Thread nD τ) ↦[(sM : Memref sig .tc .vmem S1x1024 .f32).view.set]{q} v

omit [FloatOps F] in
instance slotPts_storable (c : Dev nD) (k : Fin 7) (f) : BI.Storable (upEmb : UEmb _ 𝕄) (slotPts (F := F) c k f) := by unfold slotPts; infer_instance
omit [FloatOps F] in
instance slotAny_storable (c : Dev nD) (k : Fin 7) : BI.Storable (upEmb : UEmb _ 𝕄) (slotAny (F := F) c k) := by unfold slotAny; infer_instance
omit [FloatOps F] in
instance slotVal_storable (c : Dev nD) (k : Fin 7) (v) : BI.Storable (upEmb : UEmb _ 𝕄) (slotVal (F := F) c k v) := by unfold slotVal; infer_instance
omit [FloatOps F] in
instance sendPts_storable (c : Dev nD) (q) (v) : BI.Storable (upEmb : UEmb _ 𝕄) (sendPts (F := F) c q v) := by unfold sendPts; infer_instance

/-! ## The schedule -/

/-- The number of a send or receive semaphore. -/
def num (q : DmaSem sig) : Fin 7 := ⟨(q.val - 2) % 7, Nat.mod_lt _ (by decide)⟩
theorem num_send (k : Fin 7) : num (sendS k) = k := by revert k; decide
theorem num_recv (k : Fin 7) : num (recvS k) = k := by revert k; decide
theorem recv_ge (k : Fin 7) : 9 ≤ (recvS k).val := Nat.le_add_right _ _
theorem send_lt (k : Fin 7) : ¬ 9 ≤ (sendS k).val := by revert k; decide
theorem send_ge (k : Fin 7) : 2 ≤ (sendS k).val := Nat.le_add_right _ _

/-- What device `r`'s signal hands device `c`: the slot of `r` that `c` will write, if `r` is above `c`. -/
def barPay (c r : Dev nD) : sProp 𝕄 := if c.val < r.val then slotAny (F := F) r (gap c r) else iprop(emp)

omit [FloatOps F] in
instance barPay_storable (c r : Dev nD) : BI.Storable (upEmb : UEmb _ 𝕄) (barPay (F := F) c r) := by
  unfold barPay; split <;> infer_instance

/-- One round, round 0, of every cell of the exchange. -/
def net : Rounds.Schedule (GSem nD τ sig) (Dev nD) 𝕄 where
  duties g r :=
    if r = 0 ∧ g.1.2 = .tc then
      match g.2 with
      | .reg _ => Finset.univ.erase g.1.1
      | .dma q => if 9 ≤ q.val then (if HasDown g.1.1 (num q) then {0} else ∅)
          else if 2 ≤ q.val then (if HasUp g.1.1 (num q) then {0} else ∅) else ∅
    else ∅
  unitless _ := False
  amount g _ _ := match g.2 with | .reg _ => 1 | .dma _ => N
  payload g _ d := match g.2 with
    | .reg _ => barPay g.1.1 d
    | .dma q => if 9 ≤ q.val then slotVal g.1.1 (num q) (tot m ρ (down g.1.1 (num q)))
        else sendPts g.1.1 (shareTok fullShare 7 (num q)) (tot m ρ g.1.1)
  amount_pos g _ _ _ := by
    rcases g with ⟨c, _ | _⟩
    · exact Nat.one_pos
    · exact N_pos

instance net_payload_storable (g : GSem nD τ sig) (r : ℕ) (d : Dev nD) :
    BI.Storable (upEmb : UEmb _ 𝕄) ((net (F := F) m ρ).payload g r d) := by
  rcases g with ⟨c, _ | q⟩
  · show BI.Storable upEmb (barPay (F := F) c.1 d); infer_instance
  · show BI.Storable upEmb (if 9 ≤ q.val then slotVal c.1 (num q) (tot m ρ (down c.1 (num q)))
        else sendPts c.1 (shareTok fullShare 7 (num q)) (tot m ρ c.1))
    split <;> infer_instance

section Sched
variable (c : Dev nD) (k : Fin 7)

theorem duties_bar : (net (F := F) m ρ).duties (barCell c) 0 = Finset.univ.erase c := by dsimp only [net]; exact if_pos ⟨rfl, rfl⟩
theorem duties_send : (net (F := F) m ρ).duties (sendCell c k) 0 = if HasUp c k then {0} else ∅ := by
  dsimp only [net]; rw [if_pos ⟨rfl, rfl⟩, if_neg (send_lt k), if_pos (send_ge k), num_send]
theorem duties_recv : (net (F := F) m ρ).duties (recvCell c k) 0 = if HasDown c k then {0} else ∅ := by
  dsimp only [net]; rw [if_pos ⟨rfl, rfl⟩, if_pos (recv_ge k), num_recv]
theorem duties_later (g : GSem nD τ sig) : ∀ r, 1 ≤ r → (net (F := F) m ρ).duties g r = ∅ :=
  fun r hr => by dsimp only [net]; exact if_neg fun h => by omega
theorem duties_none_send (h : ¬ HasUp c k) : ∀ r, 0 ≤ r → (net (F := F) m ρ).duties (sendCell c k) r = ∅ := fun r _ => by
  rcases Nat.eq_zero_or_pos r with rfl | hr
  · rw [duties_send, if_neg h]
  · exact duties_later m ρ _ r hr
theorem duties_none_recv (h : ¬ HasDown c k) : ∀ r, 0 ≤ r → (net (F := F) m ρ).duties (recvCell c k) r = ∅ := fun r _ => by
  rcases Nat.eq_zero_or_pos r with rfl | hr
  · rw [duties_recv, if_neg h]
  · exact duties_later m ρ _ r hr

theorem payload_bar (d : Dev nD) : (net (F := F) m ρ).payload (barCell c) 0 d = barPay c d := rfl
theorem payload_send (d : Dev nD) : (net (F := F) m ρ).payload (sendCell c k) 0 d = sendPts c (shareTok fullShare 7 k) (tot m ρ c) := by
  dsimp only [net]; rw [if_neg (send_lt k), num_send]
theorem payload_recv (d : Dev nD) : (net (F := F) m ρ).payload (recvCell c k) 0 d = slotVal c k (tot m ρ (down c k)) := by
  dsimp only [net]; rw [if_pos (recv_ge k), num_recv]

theorem expect_bar : (net (F := F) m ρ).expect (barCell c) 0 = 7 := by
  unfold Schedule.expect Schedule.amountOf
  rw [duties_bar]
  show (Finset.univ.erase c).sum (fun _ => 1) = 7
  rw [Finset.sum_const, smul_eq_mul, Nat.mul_one, Finset.card_erase_of_mem (Finset.mem_univ _), Finset.card_univ, Fintype.card_fin]; rfl
theorem expect_send (h : HasUp c k) : (net (F := F) m ρ).expect (sendCell c k) 0 = N := by
  unfold Schedule.expect Schedule.amountOf; rw [duties_send, if_pos h, Finset.sum_singleton]; rfl
theorem expect_recv (h : HasDown c k) : (net (F := F) m ρ).expect (recvCell c k) 0 = N := by
  unfold Schedule.expect Schedule.amountOf; rw [duties_recv, if_pos h, Finset.sum_singleton]; rfl

/-- What the barrier's round hands over: the payload of every other device. -/
theorem rest_bar : bigSep ((net (F := F) m ρ).duties (barCell c) 0 \ ∅) (fun d => (net (F := F) m ρ).payload (barCell c) 0 d)
    = bigSep (Finset.univ.erase c) fun r => barPay (F := F) c r := by
  rw [Finset.sdiff_empty, duties_bar]; rfl
theorem rest_send (h : HasUp c k) : bigSep ((net (F := F) m ρ).duties (sendCell c k) 0 \ ∅) (fun d => (net (F := F) m ρ).payload (sendCell c k) 0 d)
    = sendPts c (shareTok fullShare 7 k) (tot m ρ c) := by
  rw [Finset.sdiff_empty, duties_send, if_pos h, bigSep_singleton, payload_send]
theorem rest_recv (h : HasDown c k) : bigSep ((net (F := F) m ρ).duties (recvCell c k) 0 \ ∅) (fun d => (net (F := F) m ρ).payload (recvCell c k) 0 d)
    = slotVal c k (tot m ρ (down c k)) := by
  rw [Finset.sdiff_empty, duties_recv, if_pos h, bigSep_singleton, payload_recv]

end Sched

/-! ## What each device owes at launch; the levels -/

/-- What `c` owes the barrier cell of `r`: a unit, unless `r` is itself; -/
def sigOwe (c r : Dev nD) : CellTallies nD τ sig Unit := if r = c then 0 else tallyAt (barCell r) () 1
/-- what it owes the receive cell its copy of number `k` completes on: a row's credit, if it makes the copy. -/
def sendOwe (c : Dev nD) (k : Fin 7) : CellTallies nD τ sig Unit := if HasUp c k then tallyAt (recvCell (up c k) k) () N else 0

/-- What is owed from copy `0`, `1`, … on; -/
def sendsOwed (c : Dev nD) (l : List (Fin 7)) : CellTallies nD τ sig Unit := (l.map (sendOwe c)).sum
/-- and from the first signal of the list on. -/
def sigsOwed (c : Dev nD) (l : List (Dev nD)) : CellTallies nD τ sig Unit := (l.map (sigOwe c)).sum + sendsOwed c [0, 1, 2, 3, 4, 5, 6]
/-- All a device owes. -/
def O₀ (c : Dev nD) : CellTallies nD τ sig Unit := sigsOwed c [0, 1, 2, 3, 4, 5, 6, 7]

theorem sendsOwed_cons (c : Dev nD) (k : Fin 7) (l : List (Fin 7)) : sendsOwed c (k :: l) = sendsOwed c l + sendOwe c k := by
  unfold sendsOwed; rw [List.map_cons, List.sum_cons, add_comm]
theorem sigsOwed_cons (c r : Dev nD) (l : List (Dev nD)) : sigsOwed c (r :: l) = sigsOwed c l + sigOwe c r := by
  unfold sigsOwed; rw [List.map_cons, List.sum_cons, add_assoc, add_comm]
theorem sigsOwed_nil (c : Dev nD) : sigsOwed c [] = sendsOwed c [0, 1, 2, 3, 4, 5, 6] := by
  unfold sigsOwed; rw [List.map_nil, List.sum_nil, zero_add]
theorem sendsOwed_nil (c : Dev nD) : sendsOwed c [] = 0 := rfl

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- A sum of tallies owes a cell only if one of them does. -/
theorem sum_owes {ι : Type} (f : ι → CellTallies nD τ sig Unit) (l : List ι) {g : GSem nD τ sig} {u : Unit} (h : 0 < (l.map f).sum g u) :
    ∃ i, 0 < f i g u := by
  induction l with
  | nil => exact absurd h (Nat.lt_irrefl 0)
  | cons a l ih =>
    rw [List.map_cons, List.sum_cons, Pi.add_apply, Finsupp.add_apply] at h
    rcases Nat.eq_zero_or_pos (f a g u) with h0 | h0
    · rw [h0, Nat.zero_add] at h; exact ih h
    · exact ⟨a, h0⟩

/-- Copies owe receive cells only; -/
theorem sends_pos {c : Dev nD} {l : List (Fin 7)} {g : GSem nD τ sig} {u : Unit} (h : 0 < sendsOwed c l g u) : ∃ r k, g = recvCell r k := by
  obtain ⟨k, hk⟩ := sum_owes (sendOwe c) l h
  unfold sendOwe at hk
  split at hk
  · rw [tallyAt_apply] at hk
    by_contra hn
    rw [if_neg fun h' => hn ⟨_, _, h'.1⟩] at hk
    exact Nat.lt_irrefl 0 hk
  · exact absurd hk (Nat.lt_irrefl 0)
/-- signals and copies owe barrier cells and receive cells only. -/
theorem O₀_pos {c : Dev nD} {g : GSem nD τ sig} {u : Unit} (h : 0 < O₀ c g u) : (∃ r, g = barCell r) ∨ ∃ r k, g = recvCell r k := by
  unfold O₀ sigsOwed at h
  rw [Pi.add_apply, Finsupp.add_apply] at h
  rcases Nat.eq_zero_or_pos (((List.map (sigOwe c) [0, 1, 2, 3, 4, 5, 6, 7]).sum) g u) with h0 | h0
  · rw [h0, Nat.zero_add] at h; exact .inr (sends_pos h)
  · obtain ⟨r, hr⟩ := sum_owes (sigOwe c) _ h0
    unfold sigOwe at hr
    split at hr
    · exact absurd hr (Nat.lt_irrefl 0)
    · rw [tallyAt_apply] at hr
      by_contra hn
      rw [if_neg fun h' => hn (.inl ⟨_, h'.1⟩)] at hr
      exact Nat.lt_irrefl 0 hr

theorem lv_bar (c : Dev nD) (u : Unit) : lv (barCell c) u = 1 := rfl
theorem lv_recv (c : Dev nD) (k : Fin 7) (u : Unit) : lv (recvCell c k) u = 2 := if_pos (recv_ge k)

omit [FloatOps F] in
/-- A staging cell may be waited on whatever of the above is owed; -/
theorem mayWait_stage (c : Dev nD) (q : DmaSem sig) (hq : ¬ 9 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, rfl⟩ | ⟨_, _, rfl⟩ <;> exact Finset.mem_singleton_self _)
      (fun p hp => by rw [Finset.mem_singleton.mp hp]; dsimp only [lv]; rw [if_neg hq])
      (fun g u hg => by
        rcases O₀_pos hg with ⟨_, rfl⟩ | ⟨_, _, rfl⟩
        · rw [lv_bar]; decide
        · rw [lv_recv]; decide)
  · rw [MayWait_zero]; iintro -; iempintro

omit [FloatOps F] in
/-- and the barrier cell while only copies are owed. -/
theorem mayWait_bar (c : Dev nD) (l : List (Fin 7)) :
    (levAts L lv : sProp 𝕄) ⊢ MayWait (c : Thread nD τ) (.reg barS) () (sendsOwed c l) :=
  MayOwe.of_cut (L := L) (lev := lv) 1 (fun p hp => by rw [Finset.mem_singleton.mp hp, L_tc]; exact Finset.mem_singleton_self _)
    (fun g u hg => by obtain ⟨_, _, rfl⟩ := sends_pos hg; exact Finset.mem_singleton_self _)
    (fun p hp => by rw [Finset.mem_singleton.mp hp]; exact le_of_eq rfl)
    (fun g u hg => by obtain ⟨_, _, rfl⟩ := sends_pos hg; rw [lv_recv]; decide)

end Cert.Scan

end
-- ==== Proof.Steps.lean ====
/-
# One operation of the exchange at a time

The body makes each of its operations only on the devices that have a partner for it. Each theorem here takes such a
guarded operation whole — whatever the guard turns out to be on the device — from what the device holds before it to
what it holds after it: a signal, a copy, and a wait.
-/
module

public import proofs.«01_k».proof.Proof.Cells

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows: each cell's invariant, and that it has reached round 0 -/

def records (K : Dev nD × CIx → ℕ) : sProp 𝕄 :=
  iprop((bigSep Finset.univ fun ck : Dev nD × CIx => cellInv ER (net m ρ) (K ck) (kcell ck))
    ∗ bigSep Finset.univ fun ck : Dev nD × CIx => reached ER (kcell ck) 0)

instance records_persistent (K : Dev nD × CIx → ℕ) : BI.Persistent (records m ρ K) := by unfold records; infer_instance

/-- A cell's invariant is one of the records; -/
theorem inv_at (K : Dev nD × CIx → ℕ) (ck : Dev nD × CIx) : records m ρ K ⊢ cellInv ER (net m ρ) (K ck) (kcell ck) := by
  unfold records
  exact (show _ ⊢ (bigSep Finset.univ fun ck : Dev nD × CIx => (cellInv ER (net m ρ) (K ck) (kcell ck) : sProp 𝕄)) by iintro ⟨H, -⟩; iexact H).trans
    (bigSep_elim (Finset.mem_univ ck))
/-- and so is its having reached round 0. -/
theorem reached_at (K : Dev nD × CIx → ℕ) (ck : Dev nD × CIx) : records m ρ K ⊢ (reached ER (kcell ck) 0 : sProp 𝕄) := by
  unfold records
  exact (show _ ⊢ (bigSep Finset.univ fun ck : Dev nD × CIx => (reached ER (kcell ck) 0 : sProp 𝕄)) by iintro ⟨-, H⟩; iexact H).trans
    (bigSep_elim (Finset.mem_univ ck))

/-- Device `c` still owes `O`, whatever it has waited for so far. -/
def owing (c : Dev nD) (O : CellTallies nD τ sig Unit) : sProp 𝕄 := iprop(∃ W, owes (c : Thread nD τ) O W)

/-! ## Taking one member of a family -/

omit [FloatOps F] in
/-- A family gives up its member `i` and becomes the family that agrees with it elsewhere and has nothing at `i`. -/
theorem bigSep_take {I : Type} [Fintype I] [DecidableEq I] (Φ Φ' : I → sProp 𝕄) (i : I) (hi : Φ' i = iprop(emp)) (h : ∀ j, j ≠ i → Φ j = Φ' j) :
    bigSep Finset.univ Φ ⊢ iprop(Φ i ∗ bigSep Finset.univ Φ') := by
  rw [bigSep_univ_at Φ i, bigSep_univ_at Φ' i, hi, bigSep_congr fun j hj => h j (Finset.ne_of_mem_erase hj)]
  iintro ⟨H1, H2⟩
  isplitl [H1]; · iexact H1
  isplitr; · iempintro
  iexact H2

/-- The slots of its own landing buffer that `c` has still to hand over when it has signalled the devices below `n`. -/
def handing (c : Dev nD) (n : ℕ) : sProp 𝕄 :=
  bigSep Finset.univ fun k : Fin 7 => if HasDown c k ∧ n ≤ (down c k).val then slotAny (F := F) c k else iprop(emp)
/-- The slots of other devices that `c` has still to write when it has made the copies of number below `n`. -/
def landing (c : Dev nD) (n : ℕ) : sProp 𝕄 :=
  bigSep Finset.univ fun r : Dev nD => if c.val + n < r.val then slotAny (F := F) r (gap c r) else iprop(emp)

omit [FloatOps F] in
theorem handing_take (c r : Dev nD) : handing (F := F) c r.val ⊢ iprop(barPay r c ∗ handing c (r.val + 1)) := by
  unfold handing barPay
  by_cases h : r.val < c.val
  · rw [if_pos h]
    have hk : HasDown c (gap r c) ∧ down c (gap r c) = r := by revert c r; decide
    have hne : ∀ j, j ≠ gap r c → ((HasDown c j ∧ r.val ≤ (down c j).val) ↔ (HasDown c j ∧ r.val + 1 ≤ (down c j).val)) := by
      clear hk; revert c r; decide
    refine (bigSep_take (F := F) _ (fun k : Fin 7 => if HasDown c k ∧ r.val + 1 ≤ (down c k).val then slotAny (F := F) c k else iprop(emp)) (gap r c) ?_ ?_).trans ?_
    · exact if_neg fun h' => by rw [hk.2] at h'; omega
    · intro j hj; exact if_congr (hne j hj) rfl rfl
    · rw [if_pos ⟨hk.1, by rw [hk.2]⟩]
  · rw [if_neg h]
    have hne : ∀ j, ((HasDown c j ∧ r.val ≤ (down c j).val) ↔ (HasDown c j ∧ r.val + 1 ≤ (down c j).val)) := by
      revert c r; decide
    rw [bigSep_congr fun j _ => if_congr (hne j) rfl rfl]
    iintro H; isplitr; · iempintro
    iexact H

omit [FloatOps F] in
theorem landing_take (c : Dev nD) (k : Fin 7) (h : HasUp c k) : landing (F := F) c k.val ⊢ iprop(slotAny (up c k) k ∗ landing c (k.val + 1)) := by
  unfold landing
  have hk : gap c (up c k) = k ∧ c.val + k.val < (up c k).val ∧ ¬ c.val + (k.val + 1) < (up c k).val := by revert c k; decide
  have hne : ∀ r, r ≠ up c k → (c.val + k.val < r.val ↔ c.val + (k.val + 1) < r.val) := by clear hk; revert c k; decide
  refine (bigSep_take (F := F) _ (fun r : Dev nD => if c.val + (k.val + 1) < r.val then slotAny (F := F) r (gap c r) else iprop(emp)) (up c k) ?_ ?_).trans ?_
  · exact if_neg hk.2.2
  · intro j hj; exact if_congr (hne j hj) rfl rfl
  · rw [if_pos hk.2.1, hk.1]

omit [FloatOps F] in
theorem landing_skip (c : Dev nD) (k : Fin 7) (h : ¬ HasUp c k) : landing (F := F) c k.val ⊢ landing c (k.val + 1) := by
  unfold landing
  have hne : ∀ r : Dev nD, (c.val + k.val < r.val ↔ c.val + (k.val + 1) < r.val) := by revert c k; decide
  rw [bigSep_congr fun j _ => if_congr (hne j) rfl rfl]

omit [FloatOps F] in
/-- What the barrier's round hands over is every slot `c` will write. -/
theorem landing_intro (c : Dev nD) : (bigSep (Finset.univ.erase c) fun r => barPay (F := F) c r) ⊢ landing c 0 := by
  unfold landing
  rw [bigSep_univ_at _ c, if_neg (by omega)]
  iintro H; isplitr; · iempintro
  iexact H

section Steps
variable (K : Dev nD × CIx → ℕ)

/-- A signal to `r`, unless `c` is `r`: a unit less owed, and the slot handed over if `c` is above `r`. -/
theorem signal_step (c r : Dev nD) (l : List (Dev nD)) {p : Prop} [Decidable p] (n : p → Dev nD) (hp : p ↔ r ≠ c) (hn : ∀ h, n h = r)
    {α : Type} (rest : Prog (TpuEff nD τ sig (Elt F) Λ₀ .tc) α) (Q : α → sProp 𝕄) :
    iprop(records m ρ K ∗ owing c (sigsOwed c (r :: l)) ∗ dutyTok ER (barCell r) 0 c ∗ handing c r.val)
      ⊢ iprop(((owing c (sigsOwed c l) ∗ handing c (r.val + 1)) -∗ wp frame (wpE (defs₀ (F := F)) 𝒱₀ (c : Thread nD τ) none) Set.univ rest Q)
        -∗ wp frame (wpE (defs₀ (F := F)) 𝒱₀ (c : Thread nD τ) none) Set.univ
          (if h : p then ((semSignalWord (n h) barS 1#32 : Prog (TpuEff nD τ sig (Elt F) Λ₀ .tc) PUnit) >>= fun _ => rest) else rest) Q) := by
  unfold owing
  iintro ⟨#HR, ⟨%W, Ho⟩, Ht, Hh⟩ Hk
  ihave Hs := (handing_take (F := F) c r) $$ Hh
  icases Hs with ⟨Hp, Hh⟩
  by_cases h : p
  · rw [dif_pos h, hn h]
    have hrc : r ≠ c := hp.mp h
    simp only [semSignalWord, Prog.bind_op, Prog.bind_ret]
    iapply (Rounds.wp_signal 𝒱₀ ER (net m ρ) (c : Thread nD τ) none (dst := (r : Thread nD τ)) (κ := K (r, .inl ()))
        (d := c) (by rw [duties_bar]; exact Finset.mem_erase.mpr ⟨hrc.symm, Finset.mem_univ _⟩) (show 1 = _ by decide) () (O₀ := sigsOwed c (r :: l)) (sigsOwed c l)
        (by rw [sigsOwed_cons, sigOwe, if_neg hrc]; rfl)) $$ [Ho Ht Hp]
    · isplitr; · iapply (inv_at m ρ K (r, .inl ())); iexact HR
      isplitl [Ho]; · iexact Ho
      isplitl [Ht]; · iexact Ht
      isplitl [Hp]; · rw [payload_bar]; iexact Hp
      iapply (reached_at m ρ K (r, .inl ())); iexact HR
    iintro Ho
    iapply Hk
    isplitl [Ho]; · iexists W; iexact Ho
    iexact Hh
  · rw [dif_neg h]
    have hrc : r = c := not_not.mp fun h' => h (hp.mpr h')
    iapply Hk
    isplitl [Ho]
    · iexists W; rw [sigsOwed_cons, sigOwe, if_pos hrc, add_zero]; iexact Ho
    iexact Hh

/-- What a device holds for its copy of number `k` after making it: the send cell's credit — or, if it has none to
    make, the share of the send buffer it would have lent. -/
def sent (c : Dev nD) (k : Fin 7) : sProp 𝕄 :=
  if HasUp c k then cred (tallyAt (sendCell c k) () N) else sendPts c (shareTok fullShare 7 k) (tot m ρ c)

/-- What a device holds for its copy of number `k` before making it: the tokens of the two duties the copy pays, and the
    share of the send buffer it lends. -/
def payToks (c : Dev nD) (k : Fin 7) : sProp 𝕄 := iprop(dutyTok ER (sendCell c k) 0 0 ∗ dutyTok ER (recvCell (up c k) k) 0 0)
def ready (c : Dev nD) (k : Fin 7) : sProp 𝕄 := iprop(payToks c k ∗ sendPts c (shareTok fullShare 7 k) (tot m ρ c))

/-- The copy of number `k`, if there is a device to make it to. -/
theorem send_step (c : Dev nD) (k : Fin 7) (l : List (Fin 7)) {p : Prop} [Decidable p] (n : p → Dev nD) (hp : p ↔ HasUp c k) (hn : ∀ h, n h = up c k)
    (sd rd : DmaSem sig) (hsd : sd = sendS k) (hrd : rd = recvS k)
    (dst : Memref sig .tc .vmem S1x1024 .f32) (hdst : dst = slotM k)
    {hsc : ∀ h : p, (dst : Memref sig (Dev.tc (n h) : Thread nD τ).2.kind .vmem S1x1024 .f32).view.ref.isScScratch = false}
    {hw1 : ∀ h : p, (sM : Memref sig .tc .vmem S1x1024 .f32).view.WordExact} {hw2 : ∀ h : p, dst.view.WordExact}
    {hty : ∀ h : p, DmaTarget.Typed .vmem (.dma rd) (.remote (Dev.tc (n h) : Thread nD τ) dst (.dma sd) (hsc h))}
    {α : Type} (rest : Prog (TpuEff nD τ sig (Elt F) Λ₀ .tc) α) (Q : α → sProp 𝕄) :
    iprop(records m ρ K ∗ owing c (sendsOwed c (k :: l)) ∗ ready m ρ c k ∗ landing c k.val)
      ⊢ iprop(((owing c (sendsOwed c l) ∗ landing c (k.val + 1) ∗ sent m ρ c k) -∗ wp frame (wpE (defs₀ (F := F)) 𝒱₀ (c : Thread nD τ) none) Set.univ rest Q)
        -∗ wp frame (wpE (defs₀ (F := F)) 𝒱₀ (c : Thread nD τ) none) Set.univ
          (if h : p then ((Prog.lift (.enqueueDma sM (.remote (Dev.tc (n h) : Thread nD τ) dst (.dma sd) (hsc h)) (.dma rd) (hw1 h) (hw2 h) (hty h)) :
              Prog (TpuEff nD τ sig (Elt F) Λ₀ .tc) PUnit) >>= fun _ => rest) else rest) Q) := by
  subst hsd hrd hdst
  unfold owing ready payToks
  iintro ⟨#HR, ⟨%W, Ho⟩, ⟨⟨Hts, Htr⟩, Hx⟩, Hl⟩ Hk
  by_cases h : p
  · rw [dif_pos h]
    have hu : HasUp c k := hp.mp h
    ihave Hs := (landing_take (F := F) c k hu) $$ Hl
    unfold slotAny
    icases Hs with ⟨⟨%fd, Hd⟩, Hl⟩
    generalize hsc h = hsc', hw1 h = hw1', hw2 h = hw2', hty h = hty'
    revert hsc' hty'
    rw [hn h]
    intro hsc' hty'
    simp only [Prog.lift, Prog.bind_op, Prog.bind_ret]
    unfold sendPts slotPts
    iapply (Rounds.wp_send_pointsTo 𝒱₀ ER (net m ρ) (c : Thread nD τ) none (κ₁ := K (c, .inr (.inl k))) (κ₂ := K (up c k, .inr (.inr k)))
      (r₁ := 0) (r₂ := 0) (d₁ := 0) (d₂ := 0) (fd := fd)
      (by rw [duties_send, if_pos hu]; exact Finset.mem_singleton_self _) (by rw [duties_recv, if_pos (hasDown_up hu)]; exact Finset.mem_singleton_self _)
      () () N rfl rfl rfl (O₀ := sendsOwed c (k :: l)) (sendsOwed c l) (by rw [sendsOwed_cons, sendOwe, if_pos hu]) (W := W)
      (by rw [payload_send]; exact BI.Entails.refl _)
      (by
        rw [payload_recv, down_up]; unfold slotVal slotPts
        iintro H; iexists _; isplitr
        · ipureintro; exact View.read_write_univ (v := (slotM k).view) fd _
        · iexact H)) $$ [Ho Hts Htr Hx Hd]
    · isplitr; · iapply (inv_at m ρ K (c, .inr (.inl k))); iexact HR
      isplitr; · iapply (inv_at m ρ K (up c k, .inr (.inr k))); iexact HR
      isplitl [Hx]; · iexact Hx
      isplitl [Hd]; · iexact Hd
      isplitl [Ho]; · iexact Ho
      isplitl [Hts]; · iexact Hts
      isplitr; · iapply (reached_at m ρ K (c, .inr (.inl k))); iexact HR
      isplitl [Htr]; · iexact Htr
      iapply (reached_at m ρ K (up c k, .inr (.inr k))); iexact HR
    iintro ⟨Hc, Ho⟩
    iapply Hk
    isplitl [Ho]; · iexists W; iexact Ho
    isplitl [Hl]; · iexact Hl
    unfold sent; rw [if_pos hu]; iexact Hc
  · rw [dif_neg h]
    have hu : ¬ HasUp c k := fun h' => h (hp.mpr h')
    iapply Hk
    isplitl [Ho]
    · iexists W; rw [sendsOwed_cons, sendOwe, if_neg hu, add_zero]; iexact Ho
    isplitl [Hl]; · iapply (landing_skip (F := F) c k hu); iexact Hl
    unfold sent; rw [if_neg hu]; iexact Hx

/-- A wait for the whole round of one of its DMA cells, if the round has a duty: what the round hands over — or what
    stood in its place — and the cell closed at zero. -/
theorem wait_step (c : Dev nD) (κ : ℕ) (q : DmaSem sig) (hI : records m ρ K ⊢ cellInv ER (net m ρ) κ ((c : Thread nD τ), .dma q))
    {P : Prop} [Decidable P] (pay held : sProp 𝕄)
    (hE : P → (net m ρ).expect ((c : Thread nD τ), .dma q) 0 = N)
    (hpay : P → bigSep ((net m ρ).duties ((c : Thread nD τ), .dma q) 0 \ ∅) (fun d => (net m ρ).payload ((c : Thread nD τ), .dma q) 0 d) = pay)
    (hnone : ¬ P → ∀ r, 0 ≤ r → (net m ρ).duties ((c : Thread nD τ), .dma q) r = ∅)
    {p : Prop} [Decidable p] (hp : p ↔ P) {sp : Space} {sh : Shape} {ty : EltTy}
    (src : Memref sig .tc sp sh ty) (dst : Memref sig .tc .vmem S1x1024 .f32) (hdst : dst.view.dmaCredit = N)
    {hw1 : p → src.view.WordExact} {hw2 : p → dst.view.WordExact} {α : Type} (rest : Prog (TpuEff nD τ sig (Elt F) Λ₀ .tc) α) (Q : α → sProp 𝕄) :
    iprop(records m ρ K ∗ owing c 0 ∗ atPos ER ((c : Thread nD τ), .dma q) 0 ∅ 0 ∗ (if P then cred (tallyAt ((c : Thread nD τ), .dma q) () N) else held))
      ⊢ iprop(((owing c 0 ∗ semVal ((c : Thread nD τ), .dma q) 0 ∗ (if P then pay else held)) -∗ wp frame (wpE (defs₀ (F := F)) 𝒱₀ (c : Thread nD τ) none) Set.univ rest Q)
        -∗ wp frame (wpE (defs₀ (F := F)) 𝒱₀ (c : Thread nD τ) none) Set.univ
          (if h : p then ((Prog.lift (.waitDma2 q src dst (hw1 h) (hw2 h)) : Prog (TpuEff nD τ sig (Elt F) Λ₀ .tc) PUnit) >>= fun _ => rest)
            else rest) Q) := by
  unfold owing
  iintro ⟨#HR, ⟨%W, Ho⟩, Hat, Hc⟩ Hk
  ihave #HI := hI $$ HR
  by_cases h : p
  · have hP : P := hp.mp h
    rw [dif_pos h]
    ihave Hc := (Entails.of_eq (if_pos hP)) $$ Hc
    simp only [Prog.lift, Prog.bind_op, Prog.bind_ret]
    iapply (Rounds.wp_wait_rest_token 𝒱₀ ER (net m ρ) (c : Thread nD τ) none (κ := κ)
        (wpE_waitDma2_eq 𝒱₀ (c : Thread nD τ) none Set.univ) (Set.mem_univ _) () (O := 0) (W := W) (R := 0) (m := 0) (T := ∅)
        (by rw [Nat.zero_add, hE hP, hdst])) $$ [Hc Ho Hat]
    · isplitr; · iexact HI
      isplitl [Hc]; · rw [hdst]; iexact Hc
      isplitl [Ho]; · iexact Ho
      isplitr; · rw [MayWait_zero]; iempintro
      iexact Hat
    iintro ⟨Ho, Hat, -, Hpay⟩
    ihave Hp := (Entails.of_eq (hpay hP)) $$ Hpay
    imod (Rounds.cell_close ER (net m ρ) (Set.mem_univ κ) (fun h => h) (R := 0 + 1) (duties_later m ρ _)) $$ [Hat] with Hz
    · isplitr; · iexact HI
      iexact Hat
    iapply Hk
    isplitl [Ho]; · iexists _; iexact Ho
    isplitl [Hz]; · iexact Hz
    rw [if_pos hP]; iexact Hp
  · have hP : ¬ P := fun h' => h (hp.mpr h')
    rw [dif_neg h]
    ihave Hc := (Entails.of_eq (if_neg hP)) $$ Hc
    imod (Rounds.cell_close ER (net m ρ) (Set.mem_univ κ) (fun h => h) (R := 0) (hnone hP)) $$ [Hat] with Hz
    · isplitr; · iexact HI
      iexact Hat
    iapply Hk
    isplitl [Ho]; · iexists _; iexact Ho
    isplitl [Hz]; · iexact Hz
    rw [if_neg hP]; iexact Hc

/-- What a device holds of its slot `k` before its wait for it: the receive cell's credit — or, if nothing lands there,
    the slot itself. -/
def due (c : Dev nD) (k : Fin 7) : sProp 𝕄 :=
  if HasDown c k then cred (tallyAt (recvCell c k) () N) else slotAny (F := F) c k
/-- And after it: the slot, holding the totals of the device `k + 1` places down if there is one. -/
def got (c : Dev nD) (k : Fin 7) : sProp 𝕄 :=
  if HasDown c k then slotVal c k (tot m ρ (down c k)) else slotAny (F := F) c k

/-- The two sides of that wait, with the position at the cell. -/
def await (c : Dev nD) (k : Fin 7) : sProp 𝕄 := iprop(atPos ER (recvCell c k) 0 ∅ 0 ∗ due c k)
def arrived (c : Dev nD) (k : Fin 7) : sProp 𝕄 := iprop(semVal (recvCell c k) 0 ∗ got m ρ c k)
/-- The two sides of the wait for a copy to have read its source. -/
def lent (c : Dev nD) (k : Fin 7) : sProp 𝕄 := iprop(atPos ER (sendCell c k) 0 ∅ 0 ∗ sent m ρ c k)
def back (c : Dev nD) (k : Fin 7) : sProp 𝕄 := iprop(semVal (sendCell c k) 0 ∗ sendPts c (shareTok fullShare 7 k) (tot m ρ c))

/-- The wait for what lands in slot `k`; -/
theorem recv_wait (c : Dev nD) (k : Fin 7) (q : DmaSem sig) (hq : q = recvS k) {p : Prop} [Decidable p] (hp : p ↔ HasDown c k)
    {sp : Space} {sh : Shape} {ty : EltTy} (src : Memref sig .tc sp sh ty) (dst : Memref sig .tc .vmem S1x1024 .f32) (hdst : dst = slotM k)
    {hw1 : p → src.view.WordExact} {hw2 : p → dst.view.WordExact} {α : Type} (rest : Prog (TpuEff nD τ sig (Elt F) Λ₀ .tc) α) (Q : α → sProp 𝕄) :
    iprop(records m ρ K ∗ owing c 0 ∗ await c k)
      ⊢ iprop(((owing c 0 ∗ arrived m ρ c k) -∗ wp frame (wpE (defs₀ (F := F)) 𝒱₀ (c : Thread nD τ) none) Set.univ rest Q)
        -∗ wp frame (wpE (defs₀ (F := F)) 𝒱₀ (c : Thread nD τ) none) Set.univ
          (if h : p then ((Prog.lift (.waitDma2 q src dst (hw1 h) (hw2 h)) : Prog (TpuEff nD τ sig (Elt F) Λ₀ .tc) PUnit) >>= fun _ => rest)
            else rest) Q) :=
  by subst hq; exact wait_step m ρ K c (K (c, .inr (.inr k))) (recvS k) (inv_at m ρ K (c, .inr (.inr k))) _ _ (expect_recv m ρ c k) (rest_recv m ρ c k) (duties_none_recv m ρ c k) hp src dst (hdst ▸ slot_credit k) rest Q

/-- the wait for the copy of number `k` to have read its source. -/
theorem send_wait (c : Dev nD) (k : Fin 7) (q : DmaSem sig) (hq : q = sendS k) {p : Prop} [Decidable p] (hp : p ↔ HasUp c k)
    {sp : Space} {sh : Shape} {ty : EltTy} (src : Memref sig .tc sp sh ty) (dst : Memref sig .tc .vmem S1x1024 .f32) (hdst : dst.view.dmaCredit = N)
    {hw1 : p → src.view.WordExact} {hw2 : p → dst.view.WordExact} {α : Type} (rest : Prog (TpuEff nD τ sig (Elt F) Λ₀ .tc) α) (Q : α → sProp 𝕄) :
    iprop(records m ρ K ∗ owing c 0 ∗ lent m ρ c k)
      ⊢ iprop(((owing c 0 ∗ back m ρ c k) -∗ wp frame (wpE (defs₀ (F := F)) 𝒱₀ (c : Thread nD τ) none) Set.univ rest Q)
        -∗ wp frame (wpE (defs₀ (F := F)) 𝒱₀ (c : Thread nD τ) none) Set.univ
          (if h : p then ((Prog.lift (.waitDma2 q src dst (hw1 h) (hw2 h)) : Prog (TpuEff nD τ sig (Elt F) Λ₀ .tc) PUnit) >>= fun _ => rest)
            else rest) Q) := by
  subst hq
  have h := wait_step m ρ K c (K (c, .inr (.inl k))) (sendS k) (inv_at m ρ K (c, .inr (.inl k))) _ (sendPts c (shareTok fullShare 7 k) (tot m ρ c)) (expect_send m ρ c k) (rest_send m ρ c k)
    (duties_none_send m ρ c k) hp src dst hdst (hw1 := hw1) (hw2 := hw2) rest Q
  rw [ite_self] at h
  exact h

end Steps

end Cert.Scan

end
-- ==== Proof.Body.lean ====
/-
# The body of one device

The kernel's six parts and its tail one after another, each from what a device holds before it to what it holds after.
-/
module
public import proofs.«01_k».proof.Proof.Steps
public import Idealize.ShloMosaic.Lib.Pipeline.Value
@[expose] public section
noncomputable section
namespace Cert.Scan
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
variable {F : FTy → Type} [FloatOps F]
local notation "𝕄" => MT nD τ sig Unit (Elt F) ℕ UU ℕ
variable (m : (ℓ : Loc nD τ sig) → Buf (Elt F) ℓ) (ρ : Dev nD → PrngReg) (K : Dev nD × CIx → ℕ)

/-- The position of device `c` along the line, as the kernel computes it. -/
abbrev pos (c : Dev nD) : BitVec 32 := Scalar.remsi (Scalar.divsi (Dev.word c) 1#32) 8#32

/-- The tokens of the units `c` signals with. -/
def sigToks (c : Dev nD) : sProp 𝕄 := bigSep Finset.univ fun r : Dev nD => dutyTok ER (barCell r) 0 c

omit [FloatOps F] in
theorem bigSep_dev (Φ : Dev nD → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_slot (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem part1 (c : Dev nD) (Q : (Σ' (d0 : Dev nD), BitVec 32) → sProp 𝕄) :
    iprop(records m ρ K ∗ levAts L lv ∗ owing c (O₀ c) ∗ sigToks c ∗ handing c 0 ∗ atPos ER (barCell c) 0 ∅ 0 ∗ cred (tallyAt (barCell c) () 7))
      ⊢ iprop(((owing c (sendsOwed c [0, 1, 2, 3, 4, 5, 6]) ∗ landing c 0 ∗ semVal (barCell c) 0) -∗ Q ⟨c, pos c⟩)
        -∗ wp frame (wpE (defs₀ (F := F)) 𝒱₀ (c : Thread nD τ) none) Set.univ
      (k0_part1 xM (Memref.isWhole_whole _) oM (Memref.isWhole_whole _) sM (Memref.isWhole_whole _) rM (Memref.isWhole_whole _) cc0_scratch2 cc0_scratch3) Q) := by
  rw [k0_part1_eq_skeleton]; unfold k0_part1_skel
  simp -zeta only [Prog.lift, Prog.bind_op, Prog.bind_ret]
  rw [wp_deviceId]
  unfold sigToks
  rw [bigSep_dev]
  iintro ⟨#HR, #Hlev, Ho, ⟨Ht0, Ht1, Ht2, Ht3, Ht4, Ht5, Ht6, Ht7⟩, Hh, Hat, Hc⟩ Hk
  iapply (signal_step m ρ K c 0 [1, 2, 3, 4, 5, 6, 7] _ (by revert c; decide) (fun _ => Fin.ext k0_dev1_eq)) $$ [Ho Ht0 Hh]
  · isplitr; · iexact HR
    isplitl [Ho]; · iexact Ho
    isplitl [Ht0]; · iexact Ht0
    iexact Hh
  iintro ⟨Ho, Hh⟩
  iapply (signal_step m ρ K c 1 [2, 3, 4, 5, 6, 7] _ (by revert c; decide) (fun _ => Fin.ext k0_dev2_eq)) $$ [Ho Ht1 Hh]
  · isplitr; · iexact HR
    isplitl [Ho]; · iexact Ho
    isplitl [Ht1]; · iexact Ht1
    iexact Hh
  iintro ⟨Ho, Hh⟩
  iapply (signal_step m ρ K c 2 [3, 4, 5, 6, 7] _ (by revert c; decide) (fun _ => Fin.ext k0_dev3_eq)) $$ [Ho Ht2 Hh]
  · isplitr; · iexact HR
    isplitl [Ho]; · iexact Ho
    isplitl [Ht2]; · iexact Ht2
    iexact Hh
  iintro ⟨Ho, Hh⟩
  iapply (signal_step m ρ K c 3 [4, 5, 6, 7] _ (by revert c; decide) (fun _ => Fin.ext k0_dev4_eq)) $$ [Ho Ht3 Hh]
  · isplitr; · iexact HR
    isplitl [Ho]; · iexact Ho
    isplitl [Ht3]; · iexact Ht3
    iexact Hh
  iintro ⟨Ho, Hh⟩
  iapply (signal_step m ρ K c 4 [5, 6, 7] _ (by revert c; decide) (fun _ => Fin.ext k0_dev5_eq)) $$ [Ho Ht4 Hh]
  · isplitr; · iexact HR
    isplitl [Ho]; · iexact Ho
    isplitl [Ht4]; · iexact Ht4
    iexact Hh
  iintro ⟨Ho, Hh⟩
  iapply (signal_step m ρ K c 5 [6, 7] _ (by revert c; decide) (fun _ => Fin.ext k0_dev6_eq)) $$ [Ho Ht5 Hh]
  · isplitr; · iexact HR
    isplitl [Ho]; · iexact Ho
    isplitl [Ht5]; · iexact Ht5
    iexact Hh
  iintro ⟨Ho, Hh⟩
  iapply (signal_step m ρ K c 6 [7] _ (by revert c; decide) (fun _ => Fin.ext k0_dev7_eq)) $$ [Ho Ht6 Hh]
  · isplitr; · iexact HR
    isplitl [Ho]; · iexact Ho
    isplitl [Ht6]; · iexact Ht6
    iexact Hh
  iintro ⟨Ho, Hh⟩
  iapply (signal_step m ρ K c 7 [] _ (by revert c; decide) (fun _ => Fin.ext k0_dev8_eq)) $$ [Ho Ht7 Hh]
  · isplitr; · iexact HR
    isplitl [Ho]; · iexact Ho
    isplitl [Ht7]; · iexact Ht7
    iexact Hh
  iintro ⟨Ho, Hh⟩
  iclear Hh
  rw [sigsOwed_nil]
  unfold owing
  icases Ho with ⟨%W, Ho⟩
  simp only [semWaitWord, Prog.lift, Prog.bind_op, Prog.bind_ret, Prog.pure_eq_ret]
  ihave #HI := (inv_at m ρ K (c, .inl ())) $$ HR
  iapply (Rounds.wp_wait_rest_token 𝒱₀ ER (net m ρ) (c : Thread nD τ) none (κ := K (c, .inl ()))
      (wpE_semWait_eq 𝒱₀ (c : Thread nD τ) none Set.univ) (Set.mem_univ _) () (O := sendsOwed c [0, 1, 2, 3, 4, 5, 6]) (W := W) (R := 0) (m := 0) (T := ∅)
      (by rw [expect_bar]; decide)) $$ [Hc Ho Hat]
  · isplitr; · iexact HI
    isplitl [Hc]; · iexact Hc
    isplitl [Ho]; · iexact Ho
    isplitr; · iapply (mayWait_bar c); iexact Hlev
    iexact Hat
  iintro ⟨Ho, Hat, -, Hpay⟩
  ihave Hl := ((Entails.of_eq (rest_bar m ρ c)).trans (landing_intro c)) $$ Hpay
  imod (Rounds.cell_close ER (net m ρ) (Set.mem_univ (K (c, .inl ()))) (fun h => h) (R := 0 + 1) (duties_later m ρ (barCell c))) $$ [Hat] with Hz
  · isplitr; · iexact HI
    iexact Hat
  rw [wp_ret]; imodintro
  iapply Hk
  isplitl [Ho]; · iexists _; iexact Ho
  isplitl [Hl] <;> iassumption

/-! ## Reading and writing the buffers -/

omit [FloatOps F] in
theorem zero_off : (![0, 0] : Fin 2 → Nat) = fun _ => 0 := funext fun a => by fin_cases a <;> rfl

abbrev xRect : Rect S2048x1024 := Rect.unit (s := S2048x1024) ![0, 0] S2048x1024.size inb_S2048x1024_S2048x1024_0_0
abbrev sRect : Rect S1x1024 := Rect.unit (s := S1x1024) ![0, 0] S1x1024.size inb_S1x1024_S1x1024_0_0

omit [FloatOps F] in
/-- Reading the whole of the staged block; -/
theorem read_x (f : (cc0_stg0_0 : Ref sig .tc).ty.Contents (Elt F)) : (xM : Memref sig .tc .vmem S2048x1024 .f32).view.readAt (Elt F) xRect.toLoadRect f = f :=
  Memref.readAt_unit_zero (Elt F) cc0_stg0_0 zero_off _ f
omit [FloatOps F] in
/-- writing the whole of the send buffer; -/
theorem write_s (f w : (cc0_scratch0 : Ref sig .tc).ty.Contents (Elt F)) :
    ((sM : Memref sig .tc .vmem S1x1024 .f32).access sRect : View sig .tc _ _ _).write (Elt F) f w Finset.univ = w :=
  Memref.write_access_unit_zero_univ (Elt F) cc0_scratch0 zero_off _ f w
omit [FloatOps F] in
/-- writing the whole of the staged result. -/
theorem write_o (f w : (cc0_stg1_0 : Ref sig .tc).ty.Contents (Elt F)) :
    ((oM : Memref sig .tc .vmem S2048x1024 .f32).access xRect : View sig .tc _ _ _).write (Elt F) f w Finset.univ = w :=
  Memref.write_access_unit_zero_univ (Elt F) cc0_stg1_0 zero_off _ f w

section Access
variable {α : Type}

/-- A load at the head of a program. -/
theorem load_step (c : Dev nD) {cs : CoreSpace} {s : Shape} {e : EltTy} {M : Memref sig .tc cs s e} {r : LoadRect s} {hl : M.view.LoadsAt r}
    {S : Finset (Idx (M.view.loc (c : Thread nD τ)))} {q : PosShare TreeShare} {f : Buf (Elt F) (M.view.loc (c : Thread nD τ))} (hS : M.view.setOn r.set ⊆ S)
    (k : (r.shape.Idx → Elt F e) → Prog (TpuEff nD τ sig (Elt F) Λ₀ .tc) α) (Q : α → sProp 𝕄) :
    (M.view.loc (c : Thread nD τ) ↦[S]{q} f)
      ⊢ iprop(((M.view.loc (c : Thread nD τ) ↦[S]{q} f)
          -∗ wp frame (wpE (defs₀ (F := F)) 𝒱₀ (c : Thread nD τ) none) Set.univ (k (M.view.readAt (Elt F) r f)) Q)
        -∗ wp frame (wpE (defs₀ (F := F)) 𝒱₀ (c : Thread nD τ) none) Set.univ (Prog.lift (.load M r hl) >>= k) Q) := by
  simp only [Prog.lift, Prog.bind_op, Prog.bind_ret]
  exact wp_load 𝒱₀ (c : Thread nD τ) none Set.univ hS

/-- A store at the head of a program. -/
theorem store_step (c : Dev nD) {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {f : Buf (Elt F) ((M.access r).loc (c : Thread nD τ))}
    (k : PUnit → Prog (TpuEff nD τ sig (Elt F) Λ₀ .tc) α) (Q : α → sProp 𝕄) :
    ((M.access r).loc (c : Thread nD τ) ↦{fullShare} f)
      ⊢ iprop((((M.access r).loc (c : Thread nD τ) ↦{fullShare} ((M.access r).write (Elt F) f w Finset.univ))
          -∗ wp frame (wpE (defs₀ (F := F)) 𝒱₀ (c : Thread nD τ) none) Set.univ (k ⟨⟩) Q)
        -∗ wp frame (wpE (defs₀ (F := F)) 𝒱₀ (c : Thread nD τ) none) Set.univ (Prog.lift (.store M r w Finset.univ hx hm) >>= k) Q) := by
  simp only [Prog.lift, Prog.bind_op, Prog.bind_ret]
  exact wp_store 𝒱₀ (c : Thread nD τ) none Set.univ (m := M) (r := r) (Mk := Finset.univ) (Finset.subset_univ _)

end Access

/-- The staged block; -/
def xPts (c : Dev nD) : sProp 𝕄 := (c : Thread nD τ).loc cc0_stg0_0 ↦{fullShare} xstg m ρ c
/-- the row of the send buffer, at some contents; -/
def rowAny (c : Dev nD) : sProp 𝕄 := iprop(∃ f : Buf (Elt F) ((c : Thread nD τ).loc cc0_scratch0), (c : Thread nD τ).loc cc0_scratch0 ↦{fullShare} f)
/-- the share of it, holding the totals, that no copy lends. -/
def kept (c : Dev nD) : sProp 𝕄 := sendPts c (shareDrop fullShare 7) (tot m ρ c)

/-- The row of totals dealt to the copies. -/
theorem row_deal (c : Dev nD) :
    (((sM : Memref sig .tc .vmem S1x1024 .f32).access sRect : View sig .tc _ _ _).loc (c : Thread nD τ) ↦{fullShare} k0_pay1 (xstg m ρ c) : sProp 𝕄)
    ⊢ iprop(kept m ρ c ∗ bigSep Finset.univ fun k : Fin 7 => sendPts c (shareTok fullShare 7 k) (tot m ρ c)) := by
  show ((c : Thread nD τ).loc cc0_scratch0 ↦{fullShare} (tot m ρ c) : sProp 𝕄) ⊢ _
  unfold kept sendPts
  simp only [Memref.view_whole, View.set_whole]
  exact Transfers.pointsTo_toks_split fullShare 7
/-- and put together again. -/
theorem row_join (c : Dev nD) : iprop(kept m ρ c ∗ bigSep Finset.univ fun k : Fin 7 => sendPts c (shareTok fullShare 7 k) (tot m ρ c))
    ⊢ rowAny (F := F) c := by
  unfold kept sendPts rowAny
  simp only [Memref.view_whole, View.set_whole]
  iintro H
  ihave H := (Transfers.pointsTo_toks_join fullShare 7) $$ H
  iexists _; iexact H

/-- The copies' tokens and their shares, copy by copy. -/
theorem ready_deal (c : Dev nD) : iprop((bigSep Finset.univ (payToks (F := F) c)) ∗ bigSep Finset.univ fun k : Fin 7 => sendPts c (shareTok fullShare 7 k) (tot m ρ c))
    ⊢ iprop(ready m ρ c 0 ∗ ready m ρ c 1 ∗ ready m ρ c 2 ∗ ready m ρ c 3 ∗ ready m ρ c 4 ∗ ready m ρ c 5 ∗ ready m ρ c 6) := by
  rw [← bigSep_sep']
  exact Entails.of_eq (bigSep_slot (ready m ρ c))

/-- A row in slot `k` of `c` that is the totals of the device `k + 1` places down, if there is one. -/
def Landed (c : Dev nD) (k : Fin 7) (w : Vec F S1x1x1024 .f32) : Prop :=
  HasDown c k → shapeCast S1x1024 w shapeCasts_S1x1x1024_S1x1024 = tot m ρ (down c k)

theorem shapeCasts_row : S1x1024.ShapeCasts S1x1x1024 := by decide
/-- That row itself. -/
def row (c : Dev nD) (k : Fin 7) : Vec F S1x1x1024 .f32 := shapeCast S1x1x1024 (tot m ρ (down c k)) shapeCasts_row
theorem row_landed (c : Dev nD) (k : Fin 7) : shapeCast S1x1024 (row m ρ c k) shapeCasts_S1x1x1024_S1x1024 = tot m ρ (down c k) :=
  shapeCast_shapeCast _ _ _

/-- A device's slot after its row has been read. -/
def emptied (c : Dev nD) (k : Fin 7) : sProp 𝕄 := iprop(semVal (recvCell c k) 0 ∗ slotAny (F := F) c k)

/-- The load of slot `k`. -/
theorem slot_load (c : Dev nD) (k : Fin 7) {hl : (rM : Memref sig .tc .vmem S7x1x1024 .f32).view.LoadsAt (slotRect k).toLoadRect} {α : Type}
    (rest : Vec F S1x1x1024 .f32 → Prog (TpuEff nD τ sig (Elt F) Λ₀ .tc) α) (Q : α → sProp 𝕄) :
    arrived m ρ c k
      ⊢ iprop((∀ w, ⌜Landed m ρ c k w⌝ -∗ emptied c k -∗ wp frame (wpE (defs₀ (F := F)) 𝒱₀ (c : Thread nD τ) none) Set.univ (rest w) Q)
        -∗ wp frame (wpE (defs₀ (F := F)) 𝒱₀ (c : Thread nD τ) none) Set.univ (Prog.lift (.load rM (slotRect k).toLoadRect hl) >>= rest) Q) := by
  have hS : (rM : Memref sig .tc .vmem S7x1x1024 .f32).view.setOn (slotRect k).toLoadRect.set ⊆ (slotM k).view.set := by
    refine (Memref.setOn_subset_slice_of_within rM (slotRect k) (fun _ => rfl) _ (by clear hl; revert k; decide)).trans ?_
    rw [Memref.set_view_squeeze]
  have hread : ∀ f, (slotM k).view.read (Elt F) f
      = shapeCast S1x1024 ((rM : Memref sig .tc .vmem S7x1x1024 .f32).view.readAt (Elt F) (slotRect k).toLoadRect f) shapeCasts_S1x1x1024_S1x1024 :=
    fun f => rfl
  unfold arrived got
  by_cases h : HasDown c k
  · rw [if_pos h]
    unfold slotVal slotPts
    iintro ⟨Hz, ⟨%f, %hf, Hs⟩⟩ Hk
    iapply (load_step c (M := rM) hS) $$ Hs; iintro Hs
    ispecialize Hk $$ %((rM : Memref sig .tc .vmem S7x1x1024 .f32).view.readAt (Elt F) (slotRect k).toLoadRect f)
    iapply Hk $$ %(fun _ => (hread f).symm.trans hf)
    unfold emptied slotAny slotPts
    isplitl [Hz]; · iexact Hz
    iexists f; iexact Hs
  · rw [if_neg h]
    unfold slotAny slotPts
    iintro ⟨Hz, ⟨%f, Hs⟩⟩ Hk
    iapply (load_step c (M := rM) hS) $$ Hs; iintro Hs
    ispecialize Hk $$ %((rM : Memref sig .tc .vmem S7x1x1024 .f32).view.readAt (Elt F) (slotRect k).toLoadRect f)
    iapply Hk $$ %(fun h' => absurd h' h)
    unfold emptied slotAny slotPts
    isplitl [Hz]; · iexact Hz
    iexists f; iexact Hs

/-- A choice depends on its first branch only when it takes it. -/
theorem select_congr {α : Type} (b : BitVec 1) {x y : α} (z : α) (h : b = 1#1 → x = y) : Scalar.select b x z = Scalar.select b y z := by
  unfold Scalar.select; split
  · rename_i hb; exact h hb
  · rfl

/-- The product of the first four rows is what it would be from the totals themselves; -/
theorem pay5_eq (c : Dev nD) {w0 w1 w2 w3 : Vec F S1x1x1024 .f32} (h0 : Landed m ρ c 0 w0) (h1 : Landed m ρ c 1 w1) (h2 : Landed m ρ c 2 w2) (h3 : Landed m ρ c 3 w3) :
    k0_pay5 (pos c) w0 w1 w2 w3 = k0_pay5 (pos c) (row m ρ c 0) (row m ρ c 1) (row m ρ c 2) (row m ρ c 3) := by
  unfold k0_pay5; dsimp only
  rw [select_congr _ _ fun h => (h0 (by clear h0 h1 h2 h3; revert c; decide)).trans (row_landed m ρ c 0).symm,
    select_congr (Scalar.cmpi .sge (pos c) 2#32) _ fun h => (h1 (by clear h0 h1 h2 h3; revert c; decide)).trans (row_landed m ρ c 1).symm,
    select_congr (Scalar.cmpi .sge (pos c) 3#32) _ fun h => (h2 (by clear h0 h1 h2 h3; revert c; decide)).trans (row_landed m ρ c 2).symm,
    select_congr (Scalar.cmpi .sge (pos c) 4#32) _ fun h => (h3 (by clear h0 h1 h2 h3; revert c; decide)).trans (row_landed m ρ c 3).symm]

/-- and so is the result. -/
theorem pay6_eq (c : Dev nD) (v : FVec F S2048x1024 .f32) (p : FVec F S1x1024 .f32) {w4 w5 w6 : Vec F S1x1x1024 .f32}
    (h4 : Landed m ρ c 4 w4) (h5 : Landed m ρ c 5 w5) (h6 : Landed m ρ c 6 w6) :
    k0_pay6 (pos c) v p 5#32 w4 w5 w6 = k0_pay6 (pos c) v p 5#32 (row m ρ c 4) (row m ρ c 5) (row m ρ c 6) := by
  unfold k0_pay6; dsimp only
  rw [select_congr (Scalar.cmpi .sge (pos c) 5#32) _ fun h => (h4 (by clear h4 h5 h6; revert c; decide)).trans (row_landed m ρ c 4).symm,
    select_congr (Scalar.cmpi .sge (pos c) 6#32) _ fun h => (h5 (by clear h4 h5 h6; revert c; decide)).trans (row_landed m ρ c 5).symm,
    select_congr (Scalar.cmpi .sge (pos c) 7#32) _ fun h => (h6 (by clear h4 h5 h6; revert c; decide)).trans (row_landed m ρ c 6).symm]

/-! ## The parts -/

/-- Part 2: the totals computed, and the first two copies. -/
theorem part2 (c : Dev nD) (Q : (Σ' (v74 : BitVec 32), BitVec 32) → sProp 𝕄) :
    iprop(records m ρ K ∗ owing c (sendsOwed c [0, 1, 2, 3, 4, 5, 6]) ∗ landing c 0 ∗ xPts m ρ c ∗ rowAny c ∗ bigSep Finset.univ (payToks (F := F) c))
      ⊢ iprop(((owing c (sendsOwed c [2, 3, 4, 5, 6]) ∗ landing c 2 ∗ xPts m ρ c ∗ kept m ρ c ∗ sent m ρ c 0 ∗ sent m ρ c 1
            ∗ ready m ρ c 2 ∗ ready m ρ c 3 ∗ ready m ρ c 4 ∗ ready m ρ c 5 ∗ ready m ρ c 6) -∗ Q ⟨Scalar.addi (pos c) 3#32, 8#32⟩)
        -∗ wp frame (wpE (defs₀ (F := F)) 𝒱₀ (c : Thread nD τ) none) Set.univ
      (k0_part2 xM (Memref.isWhole_whole _) oM (Memref.isWhole_whole _) sM (Memref.isWhole_whole _) rM (Memref.isWhole_whole _) cc0_scratch2 cc0_scratch3 c (pos c)) Q) := by
  rw [k0_part2_eq_skeleton]; unfold k0_part2_skel
  unfold xPts rowAny
  iintro ⟨#HR, Ho, Hl, Hx, ⟨%f, Hs⟩, Ht⟩ Hk
  iapply (load_step c (M := xM) (Finset.subset_univ _)) $$ Hx; iintro Hx
  iapply (load_step c (M := sM) (Finset.subset_univ _)) $$ Hs; iintro Hs
  iapply (store_step c (M := sM) (r := sRect)) $$ Hs; iintro Hs
  rw [read_x, write_s]
  ihave Hs := (row_deal m ρ c) $$ Hs
  icases Hs with ⟨Hkept, Hs⟩
  ihave Hr := (ready_deal m ρ c) $$ [Ht Hs]
  · isplitl [Ht] <;> iassumption
  icases Hr with ⟨Hr0, Hr1, Hr⟩
  iapply (send_step m ρ K c 0 [1, 2, 3, 4, 5, 6] _ (by clear f; revert c; decide) (fun h => Fin.ext (by clear f; revert c; decide)) _ _ (by decide) (by decide) _ rfl) $$ [Ho Hr0 Hl]
  · isplitr; · iexact HR
    isplitl [Ho]; · iexact Ho
    isplitl [Hr0]; · iexact Hr0
    iexact Hl
  iintro ⟨Ho, Hl, Hs0⟩
  iapply (send_step m ρ K c 1 [2, 3, 4, 5, 6] _ (by clear f; revert c; decide) (fun h => Fin.ext (by clear f; revert c; decide)) _ _ (by decide) (by decide) _ rfl) $$ [Ho Hr1 Hl]
  · isplitr; · iexact HR
    isplitl [Ho]; · iexact Ho
    isplitl [Hr1]; · iexact Hr1
    iexact Hl
  iintro ⟨Ho, Hl, Hs1⟩
  rw [Prog.pure_eq_ret, wp_ret]; imodintro
  iapply Hk
  isplitl [Ho]; · iexact Ho
  isplitl [Hl]; · iexact Hl
  isplitl [Hx]; · iexact Hx
  isplitl [Hkept]; · iexact Hkept
  isplitl [Hs0]; · iexact Hs0
  isplitl [Hs1]; · iexact Hs1
  iexact Hr

/-- Part 3: the other five copies, and the first steps of the scan. -/
theorem part3 (c : Dev nD) (v v' : BitVec 32) (Q : (Σ' (v107 : FVec F S2048x1024 .f32), FVec F S2048x1024 .f32) → sProp 𝕄) :
    iprop(records m ρ K ∗ owing c (sendsOwed c [2, 3, 4, 5, 6]) ∗ landing c 2 ∗ xPts m ρ c
        ∗ ready m ρ c 2 ∗ ready m ρ c 3 ∗ ready m ρ c 4 ∗ ready m ρ c 5 ∗ ready m ρ c 6)
      ⊢ iprop(((owing c 0 ∗ xPts m ρ c ∗ sent m ρ c 2 ∗ sent m ρ c 3 ∗ sent m ρ c 4 ∗ sent m ρ c 5 ∗ sent m ρ c 6)
          -∗ Q ⟨k0_pay2 (xstg m ρ c), k0_pay3 (xstg m ρ c)⟩)
        -∗ wp frame (wpE (defs₀ (F := F)) 𝒱₀ (c : Thread nD τ) none) Set.univ
      (k0_part3 xM (Memref.isWhole_whole _) oM (Memref.isWhole_whole _) sM (Memref.isWhole_whole _) rM (Memref.isWhole_whole _) cc0_scratch2 cc0_scratch3 c (pos c) v v') Q) := by
  rw [k0_part3_eq_skeleton]; unfold k0_part3_skel
  unfold xPts
  iintro ⟨#HR, Ho, Hl, Hx, Hr2, Hr3, Hr4, Hr5, Hr6⟩ Hk
  iapply (send_step m ρ K c 2 [3, 4, 5, 6] _ (by revert c; decide) (fun h => Fin.ext (by revert c; decide)) _ _ (by decide) (by decide) _ rfl) $$ [Ho Hr2 Hl]
  · isplitr; · iexact HR
    isplitl [Ho]; · iexact Ho
    isplitl [Hr2]; · iexact Hr2
    iexact Hl
  iintro ⟨Ho, Hl, Hs2⟩
  iapply (send_step m ρ K c 3 [4, 5, 6] _ (by revert c; decide) (fun h => Fin.ext (by revert c; decide)) _ _ (by decide) (by decide) _ rfl) $$ [Ho Hr3 Hl]
  · isplitr; · iexact HR
    isplitl [Ho]; · iexact Ho
    isplitl [Hr3]; · iexact Hr3
    iexact Hl
  iintro ⟨Ho, Hl, Hs3⟩
  iapply (send_step m ρ K c 4 [5, 6] _ (by revert c; decide) (fun h => Fin.ext (by revert c; decide)) _ _ (by decide) (by decide) _ rfl) $$ [Ho Hr4 Hl]
  · isplitr; · iexact HR
    isplitl [Ho]; · iexact Ho
    isplitl [Hr4]; · iexact Hr4
    iexact Hl
  iintro ⟨Ho, Hl, Hs4⟩
  iapply (send_step m ρ K c 5 [6] _ (by revert c; decide) (fun h => Fin.ext (by revert c; decide)) _ _ (by decide) (by decide) _ rfl) $$ [Ho Hr5 Hl]
  · isplitr; · iexact HR
    isplitl [Ho]; · iexact Ho
    isplitl [Hr5]; · iexact Hr5
    iexact Hl
  iintro ⟨Ho, Hl, Hs5⟩
  iapply (send_step m ρ K c 6 [] _ (by revert c; decide) (fun h => Fin.ext (by revert c; decide)) _ _ (by decide) (by decide) _ rfl) $$ [Ho Hr6 Hl]
  · isplitr; · iexact HR
    isplitl [Ho]; · iexact Ho
    isplitl [Hr6]; · iexact Hr6
    iexact Hl
  iintro ⟨Ho, Hl, Hs6⟩
  iapply (load_step c (M := xM) (Finset.subset_univ _)) $$ Hx; iintro Hx
  rw [read_x, Prog.pure_eq_ret, wp_ret]; imodintro
  iapply Hk
  rw [sendsOwed_nil]
  isplitl [Ho]; · iexact Ho
  isplitl [Hx]; · iexact Hx
  isplitl [Hs2]; · iexact Hs2
  isplitl [Hs3]; · iexact Hs3
  isplitl [Hs4]; · iexact Hs4
  isplitl [Hs5]; · iexact Hs5
  iexact Hs6

/-- Part 4: more steps of the scan, and the waits for the first four rows. -/
theorem part4 (c : Dev nD) (v w : FVec F S2048x1024 .f32) (Q : (Σ' (v135 : FVec F S2048x1024 .f32), BitVec 1) → sProp 𝕄) :
    iprop(records m ρ K ∗ owing c 0 ∗ await c 0 ∗ await c 1 ∗ await c 2 ∗ await c 3)
      ⊢ iprop(((owing c 0 ∗ arrived m ρ c 0 ∗ arrived m ρ c 1 ∗ arrived m ρ c 2 ∗ arrived m ρ c 3)
          -∗ Q ⟨k0_pay4 v w, Scalar.cmpi .ne (Scalar.extui (Scalar.cmpi .sge (pos c) 5#32)) 0#32⟩)
        -∗ wp frame (wpE (defs₀ (F := F)) 𝒱₀ (c : Thread nD τ) none) Set.univ
      (k0_part4 xM (Memref.isWhole_whole _) oM (Memref.isWhole_whole _) sM (Memref.isWhole_whole _) rM (Memref.isWhole_whole _) cc0_scratch2 cc0_scratch3 (pos c) v w) Q) := by
  rw [k0_part4_eq_skeleton]; unfold k0_part4_skel
  iintro ⟨#HR, Ho, Ha0, Ha1, Ha2, Ha3⟩ Hk
  iapply (recv_wait m ρ K c 0 _ (by decide) (by revert c; decide) _ _ rfl) $$ [Ho Ha0]
  · isplitr; · iexact HR
    isplitl [Ho]; · iexact Ho
    iexact Ha0
  iintro ⟨Ho, Ha0⟩
  iapply (recv_wait m ρ K c 1 _ (by decide) (by revert c; decide) _ _ rfl) $$ [Ho Ha1]
  · isplitr; · iexact HR
    isplitl [Ho]; · iexact Ho
    iexact Ha1
  iintro ⟨Ho, Ha1⟩
  iapply (recv_wait m ρ K c 2 _ (by decide) (by revert c; decide) _ _ rfl) $$ [Ho Ha2]
  · isplitr; · iexact HR
    isplitl [Ho]; · iexact Ho
    iexact Ha2
  iintro ⟨Ho, Ha2⟩
  iapply (recv_wait m ρ K c 3 _ (by decide) (by revert c; decide) _ _ rfl) $$ [Ho Ha3]
  · isplitr; · iexact HR
    isplitl [Ho]; · iexact Ho
    iexact Ha3
  iintro ⟨Ho, Ha3⟩
  rw [Prog.pure_eq_ret, wp_ret]; imodintro
  iapply Hk
  isplitl [Ho]; · iexact Ho
  isplitl [Ha0]; · iexact Ha0
  isplitl [Ha1]; · iexact Ha1
  isplitl [Ha2]; · iexact Ha2
  iexact Ha3

/-- Part 5: the waits for the other three rows, and the product of the first four. -/
theorem part5 (c : Dev nD) (Q : (Σ' (v181 : FVec F S1x1024 .f32), BitVec 32) → sProp 𝕄) :
    iprop(records m ρ K ∗ owing c 0 ∗ arrived m ρ c 0 ∗ arrived m ρ c 1 ∗ arrived m ρ c 2 ∗ arrived m ρ c 3 ∗ await c 4 ∗ await c 5 ∗ await c 6)
      ⊢ iprop(((owing c 0 ∗ emptied c 0 ∗ emptied c 1 ∗ emptied c 2 ∗ emptied c 3 ∗ arrived m ρ c 4 ∗ arrived m ρ c 5 ∗ arrived m ρ c 6)
          -∗ Q ⟨k0_pay5 (pos c) (row m ρ c 0) (row m ρ c 1) (row m ρ c 2) (row m ρ c 3), 5#32⟩)
        -∗ wp frame (wpE (defs₀ (F := F)) 𝒱₀ (c : Thread nD τ) none) Set.univ
      (k0_part5 xM (Memref.isWhole_whole _) oM (Memref.isWhole_whole _) sM (Memref.isWhole_whole _) rM (Memref.isWhole_whole _) cc0_scratch2 cc0_scratch3 (pos c)
        (Scalar.cmpi .ne (Scalar.extui (Scalar.cmpi .sge (pos c) 5#32)) 0#32)) Q) := by
  rw [k0_part5_eq_skeleton]; unfold k0_part5_skel
  iintro ⟨#HR, Ho, Ha0, Ha1, Ha2, Ha3, Ha4, Ha5, Ha6⟩ Hk
  iapply (recv_wait m ρ K c 4 _ (by decide) (by revert c; decide) _ _ rfl) $$ [Ho Ha4]
  · isplitr; · iexact HR
    isplitl [Ho]; · iexact Ho
    iexact Ha4
  iintro ⟨Ho, Ha4⟩
  iapply (recv_wait m ρ K c 5 _ (by decide) (by revert c; decide) _ _ rfl) $$ [Ho Ha5]
  · isplitr; · iexact HR
    isplitl [Ho]; · iexact Ho
    iexact Ha5
  iintro ⟨Ho, Ha5⟩
  iapply (recv_wait m ρ K c 6 _ (by decide) (by revert c; decide) _ _ rfl) $$ [Ho Ha6]
  · isplitr; · iexact HR
    isplitl [Ho]; · iexact Ho
    iexact Ha6
  iintro ⟨Ho, Ha6⟩
  iapply (slot_load m ρ c 0) $$ Ha0; iintro %w0 %h0 Ha0
  iapply (slot_load m ρ c 1) $$ Ha1; iintro %w1 %h1 Ha1
  iapply (slot_load m ρ c 2) $$ Ha2; iintro %w2 %h2 Ha2
  iapply (slot_load m ρ c 3) $$ Ha3; iintro %w3 %h3 Ha3
  rw [pay5_eq m ρ c h0 h1 h2 h3, Prog.pure_eq_ret, wp_ret]; imodintro
  iapply Hk
  isplitl [Ho]; · iexact Ho
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexact Ha6

/-- The staged result at contents `f`. -/
def oPts (c : Dev nD) (f : (cc0_stg1_0 : Ref sig .tc).ty.Contents (Elt F)) : sProp 𝕄 := (c : Thread nD τ).loc cc0_stg1_0 ↦{fullShare} f

/-- Part 6: the last three rows, the result stored, and the first two copies waited for. -/
theorem part6 (c : Dev nD) (v : FVec F S2048x1024 .f32) (p : FVec F S1x1024 .f32) (f : (cc0_stg1_0 : Ref sig .tc).ty.Contents (Elt F)) (Q : BitVec 32 → sProp 𝕄) :
    iprop(records m ρ K ∗ owing c 0 ∗ arrived m ρ c 4 ∗ arrived m ρ c 5 ∗ arrived m ρ c 6 ∗ oPts c f ∗ lent m ρ c 0 ∗ lent m ρ c 1)
      ⊢ iprop(((owing c 0 ∗ emptied c 4 ∗ emptied c 5 ∗ emptied c 6 ∗ oPts c (k0_pay6 (pos c) v p 5#32 (row m ρ c 4) (row m ρ c 5) (row m ρ c 6))
            ∗ back m ρ c 0 ∗ back m ρ c 1) -∗ Q 3#32)
        -∗ wp frame (wpE (defs₀ (F := F)) 𝒱₀ (c : Thread nD τ) none) Set.univ
      (k0_part6 xM (Memref.isWhole_whole _) oM (Memref.isWhole_whole _) sM (Memref.isWhole_whole _) rM (Memref.isWhole_whole _) cc0_scratch2 cc0_scratch3 (pos c) v p 5#32) Q) := by
  rw [k0_part6_eq_skeleton]; unfold k0_part6_skel
  unfold oPts
  iintro ⟨#HR, Ho, Ha4, Ha5, Ha6, Hf, Hs0, Hs1⟩ Hk
  iapply (slot_load m ρ c 4) $$ Ha4; iintro %w4 %h4 Ha4
  iapply (slot_load m ρ c 5) $$ Ha5; iintro %w5 %h5 Ha5
  iapply (slot_load m ρ c 6) $$ Ha6; iintro %w6 %h6 Ha6
  iapply (load_step c (M := oM) (Finset.subset_univ _)) $$ Hf; iintro Hf
  iapply (store_step c (M := oM) (r := xRect)) $$ Hf; iintro Hf
  rw [write_o, pay6_eq m ρ c v p h4 h5 h6]
  clear h4 h5 h6 w4 w5 w6 f
  generalize k0_pay6 (pos c) v p 5#32 (row m ρ c 4) (row m ρ c 5) (row m ρ c 6) = f
  clear v p
  iapply (send_wait m ρ K c 0 _ (by decide) (by revert c; decide) _ _ rfl) $$ [Ho Hs0]
  · isplitr; · iexact HR
    isplitl [Ho]; · iexact Ho
    iexact Hs0
  iintro ⟨Ho, Hs0⟩
  iapply (send_wait m ρ K c 1 _ (by decide) (by revert c; decide) _ _ rfl) $$ [Ho Hs1]
  · isplitr; · iexact HR
    isplitl [Ho]; · iexact Ho
    iexact Hs1
  iintro ⟨Ho, Hs1⟩
  rw [Prog.pure_eq_ret, wp_ret]; imodintro
  iapply Hk
  isplitl [Ho]; · iexact Ho
  isplitl [Ha4]; · iexact Ha4
  isplitl [Ha5]; · iexact Ha5
  isplitl [Ha6]; · iexact Ha6
  isplitl [Hf]; · iexact Hf
  isplitl [Hs0]; · iexact Hs0
  iexact Hs1

end Cert.Scan
-- ==== Proof.Device.lean ====
/-
# One device from its launch to its end

What a device holds when its body starts, what it leaves, and the body as a whole between the two; the staged result
is one fixed function of the device's block and of the totals of the devices below it.
-/
module
public import proofs.«01_k».proof.Proof.Body
@[expose] public section
noncomputable section
namespace Cert.Scan
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop)
variable {F : FTy → Type} [FloatOps F]
local notation "𝕄" => MT nD τ sig Unit (Elt F) ℕ UU ℕ
variable (m : (ℓ : Loc nD τ sig) → Buf (Elt F) ℓ) (ρ : Dev nD → PrngReg)

/-! ## The landing buffer and its seven slots -/

/-- The places of slot `k` in the landing buffer. -/
abbrev slotSet (k : Fin 7) : Finset S7x1x1024.Idx := (slotM k).view.set

theorem slot_set (k : Fin 7) : slotSet k = (slotRect k).set := by
  unfold slotSet; rw [Memref.set_view_squeeze]; exact View.set_slice_whole _ _

theorem slots_disjoint (k k' : Fin 7) (h : k ≠ k') : Disjoint (slotSet k) (slotSet k') := by
  rw [slot_set, slot_set]
  exact Ring.lead_disjoint (s := S7x1x1024) (0 : Fin 3) 1 (fun k : Fin 7 => ![k.val, 0, 0]) S1x1x1024.size slot_inb (by decide) (by decide) k k' h

theorem slots_cover : Finset.univ.biUnion slotSet = Finset.univ := by
  rw [show slotSet = fun k => (slotRect k).set from funext slot_set]
  exact Ring.lead_cover (s := S7x1x1024) (0 : Fin 3) 1 (fun k : Fin 7 => ![k.val, 0, 0]) S1x1x1024.size slot_inb (by decide) (by decide) (by decide) (by decide) (by decide)

/-- The landing buffer whole, at some contents. -/
def landAny (c : Dev nD) : sProp 𝕄 := iprop(∃ f : Buf (Elt F) ((c : Thread nD τ).loc cc0_scratch1), (c : Thread nD τ).loc cc0_scratch1 ↦{fullShare} f)

omit [FloatOps F] in
/-- It is its seven slots; -/
theorem land_split (c : Dev nD) : landAny (F := F) c ⊢ bigSep Finset.univ (slotAny (F := F) c) := by
  unfold landAny
  iintro ⟨%f, H⟩
  ihave H := (Entails.of_eq (Ring.pointsTo_blocks (ℓ := (c : Thread nD τ).loc cc0_scratch1) (q := fullShare) slotSet slots_disjoint slots_cover f)) $$ H
  iapply (show (bigSep Finset.univ fun k : Fin 7 => ((c : Thread nD τ).loc cc0_scratch1 ↦[slotSet k]{fullShare} f : sProp 𝕄)) ⊢ bigSep Finset.univ (slotAny (F := F) c) from
    bigSep_mono fun k _ => show ((c : Thread nD τ).loc cc0_scratch1 ↦[slotSet k]{fullShare} f : sProp 𝕄) ⊢ slotAny (F := F) c k by
      unfold slotAny slotPts; iintro H; iexists f; iexact H)
  iexact H

/-- and they are it. -/
theorem land_join (c : Dev nD) : bigSep Finset.univ (slotAny (F := F) c) ⊢ landAny (F := F) c := by
  unfold landAny
  refine BIBase.Entails.trans (Entails.of_eq ?_) (Ring.pointsTo_blocks_join_exists (ℓ := (c : Thread nD τ).loc cc0_scratch1) (q := fullShare) slotSet slots_disjoint slots_cover (fun _ => (FloatOps.ofBits .f32 0#32 : F .f32)))
  rfl

/-! ## What a device's body starts from and what it leaves -/

/-- The receive credit the launch gives `c` for slot `k`, if something lands there. -/
def recvCred (c : Dev nD) (k : Fin 7) : sProp 𝕄 := if HasDown c k then cred (tallyAt (recvCell c k) () N) else iprop(emp)

/-- The ghost state: the records, `c`'s positions, the tokens of the duties it pays. -/
def ghost (K : Dev nD × CIx → ℕ) (c : Dev nD) : sProp 𝕄 :=
  iprop(records m ρ K ∗ (bigSep Finset.univ fun j : CIx => atPos ER (kcell (c, j)) 0 ∅ 0) ∗ sigToks c ∗ bigSep Finset.univ (payToks (F := F) c))

/-- What the launch gives device `c`. -/
def start (c : Dev nD) : sProp 𝕄 :=
  iprop((∃ K, ghost m ρ K c) ∗ cred (tallyAt (barCell c) () 7) ∗ bigSep Finset.univ (recvCred (F := F) c) ∗ levAts L lv)

/-- Its two scratch buffers. -/
def scr (c : Dev nD) : sProp 𝕄 := iprop(rowAny (F := F) c ∗ landAny (F := F) c)

def Φ₀ (c : Dev nD) : sProp 𝕄 := iprop(start m ρ c ∗ scr (F := F) c)
/-- At the end the scratch is at some contents and every cell of the exchange at zero. -/
def Φ₁ (c : Dev nD) : sProp 𝕄 := iprop(scr (F := F) c ∗ bigSep Finset.univ fun j : CIx => semVal (kcell (c, j)) 0)

/-- The result on device `c`. -/
def outAt (c : Dev nD) : (cc0_stg1_0 : Ref sig .tc).ty.Contents (Elt F) :=
  k0_pay6 (pos c) (k0_pay4 (k0_pay2 (xstg m ρ c)) (k0_pay3 (xstg m ρ c)))
    (k0_pay5 (pos c) (row m ρ c 0) (row m ρ c 1) (row m ρ c 2) (row m ρ c 3)) 5#32 (row m ρ c 4) (row m ρ c 5) (row m ρ c 6)

omit [FloatOps F] in
/-- The landing buffer and the receive credits are the slots to hand over and, slot by slot, what is waited for. -/
theorem slots_deal (c : Dev nD) : iprop(landAny (F := F) c ∗ bigSep Finset.univ (recvCred (F := F) c))
    ⊢ iprop(handing (F := F) c 0 ∗ bigSep Finset.univ (due (F := F) c)) := by
  refine (sep_mono_left (land_split c)).trans ?_
  unfold handing
  rw [← bigSep_sep', ← bigSep_sep']
  refine bigSep_mono fun k _ => ?_
  unfold recvCred due
  by_cases h : HasDown c k
  · rw [if_pos h, if_pos h, if_pos ⟨h, Nat.zero_le _⟩]; exact BI.Entails.refl _
  · rw [if_neg h, if_neg h, if_neg fun h' => h h'.1]
    show iprop(slotAny (F := F) c k ∗ emp) ⊢ iprop(emp ∗ slotAny (F := F) c k)
    iintro ⟨H1, H2⟩; isplitl [H2] <;> iassumption

omit [FloatOps F] in
theorem bigSep_cells (Φ : CIx → sProp 𝕄) : bigSep Finset.univ Φ
    = iprop(Φ (.inl ()) ∗ (bigSep Finset.univ fun k : Fin 7 => Φ (.inr (.inl k))) ∗ bigSep Finset.univ fun k : Fin 7 => Φ (.inr (.inr k))) := by
  rw [bigSep_univ_sum, bigSep_univ_sum]
  exact congrArg (fun P : sProp 𝕄 => iprop(P ∗ (bigSep Finset.univ fun k : Fin 7 => Φ (.inr (.inl k))) ∗ bigSep Finset.univ fun k : Fin 7 => Φ (.inr (.inr k))))
    (bigSep_univ_eq_bigSepL [()] (by decide) (by decide) _)

/-- The positions at the receive cells with what is waited for there. -/
theorem await_deal (c : Dev nD) : iprop((bigSep Finset.univ fun k : Fin 7 => (atPos ER (recvCell c k) 0 ∅ 0 : sProp 𝕄)) ∗ bigSep Finset.univ (due (F := F) c))
    ⊢ iprop(await (F := F) c 0 ∗ await (F := F) c 1 ∗ await (F := F) c 2 ∗ await (F := F) c 3 ∗ await (F := F) c 4 ∗ await (F := F) c 5 ∗ await (F := F) c 6) := by
  rw [← bigSep_sep']
  exact Entails.of_eq (bigSep_slot (await (F := F) c))

/-- The slots read are the landing buffer, and their cells are closed; -/
theorem emptied_join (c : Dev nD) : iprop(emptied (F := F) c 0 ∗ emptied (F := F) c 1 ∗ emptied (F := F) c 2 ∗ emptied (F := F) c 3 ∗ emptied (F := F) c 4 ∗ emptied (F := F) c 5 ∗ emptied (F := F) c 6)
    ⊢ iprop((bigSep Finset.univ fun k : Fin 7 => (semVal (recvCell c k) 0 : sProp 𝕄)) ∗ landAny (F := F) c) := by
  refine BIBase.Entails.trans ?_ (sep_mono_right (land_join c))
  rw [← bigSep_sep']
  exact Entails.of_eq (bigSep_slot (emptied (F := F) c)).symm

/-- the shares that came back, with the one kept, are the send buffer. -/
theorem back_join (c : Dev nD) : iprop(kept m ρ c ∗ back m ρ c 0 ∗ back m ρ c 1 ∗ back m ρ c 2 ∗ back m ρ c 3 ∗ back m ρ c 4 ∗ back m ρ c 5 ∗ back m ρ c 6)
    ⊢ iprop((bigSep Finset.univ fun k : Fin 7 => (semVal (sendCell c k) 0 : sProp 𝕄)) ∗ rowAny (F := F) c) := by
  have h : iprop(back m ρ c 0 ∗ back m ρ c 1 ∗ back m ρ c 2 ∗ back m ρ c 3 ∗ back m ρ c 4 ∗ back m ρ c 5 ∗ back m ρ c 6)
      ⊢ iprop((bigSep Finset.univ fun k : Fin 7 => (semVal (sendCell c k) 0 : sProp 𝕄)) ∗ bigSep Finset.univ fun k : Fin 7 => sendPts c (shareTok fullShare 7 k) (tot m ρ c)) := by
    rw [← bigSep_sep']
    exact Entails.of_eq (bigSep_slot (back m ρ c)).symm
  iintro ⟨Hk, Hb⟩
  ihave H := h $$ Hb
  icases H with ⟨Hz, Hb⟩
  isplitl [Hz]; · iexact Hz
  iapply (row_join m ρ c)
  isplitl [Hk] <;> iassumption

/-! ## The body -/

/-- A step that leads from `A` to `B` and returns `a`, at the head of a program. -/
theorem after {α β : Type} (c : Dev nD) {A B : sProp 𝕄} {a : α} {p : Prog (TpuEff nD τ sig (Elt F) Λ₀ .tc) α}
    (h : ∀ Q : α → sProp 𝕄, A ⊢ iprop((B -∗ Q a) -∗ wp frame (wpE (defs₀ (F := F)) 𝒱₀ (c : Thread nD τ) none) Set.univ p Q))
    (k : α → Prog (TpuEff nD τ sig (Elt F) Λ₀ .tc) β) (Q : β → sProp 𝕄) :
    A ⊢ iprop((B -∗ wp frame (wpE (defs₀ (F := F)) 𝒱₀ (c : Thread nD τ) none) Set.univ (k a) Q)
      -∗ wp frame (wpE (defs₀ (F := F)) 𝒱₀ (c : Thread nD τ) none) Set.univ (p >>= k) Q) := by
  rw [wp_bind]; exact h fun a => wp frame (wpE (defs₀ (F := F)) 𝒱₀ (c : Thread nD τ) none) Set.univ (k a) Q

section Whole
variable (K : Dev nD × CIx → ℕ)

set_option maxHeartbeats 1000000 in
/-- The body from what device `c` starts with to what it leaves, the result staged. -/
theorem body_run (c : Dev nD) (f : (cc0_stg1_0 : Ref sig .tc).ty.Contents (Elt F)) (Q : PUnit → sProp 𝕄) :
    iprop(ghost m ρ K c ∗ cred (tallyAt (barCell c) () 7) ∗ bigSep Finset.univ (recvCred (F := F) c) ∗ levAts L lv ∗ scr (F := F) c
        ∗ owing c (O₀ c) ∗ xPts m ρ c ∗ oPts c f)
      ⊢ iprop((Φ₁ (F := F) c ∗ owing c 0 ∗ xPts m ρ c ∗ oPts c (outAt m ρ c) -∗ Q ⟨⟩)
        -∗ wp frame (wpE (defs₀ (F := F)) 𝒱₀ (c : Thread nD τ) none) Set.univ
          (cc0_body xM (Memref.isWhole_whole _) oM (Memref.isWhole_whole _) sM (Memref.isWhole_whole _) rM (Memref.isWhole_whole _) cc0_scratch2 cc0_scratch3) Q) := by
  rw [cc0_body_eq_skeleton]; unfold cc0_body_skel
  unfold ghost scr
  iintro ⟨⟨#HR, Hat, Hsig, Hpay⟩, Hcb, Hcr, #Hlev, ⟨Hrow, Hland⟩, Ho, Hx, Hf⟩ Hk
  ihave Hat := (Entails.of_eq (bigSep_cells (F := F) _)) $$ Hat
  icases Hat with ⟨HatB, HatS, HatR⟩
  ihave Hd := (slots_deal (F := F) c) $$ [Hland Hcr]
  · isplitl [Hland] <;> iassumption
  icases Hd with ⟨Hh, Hd⟩
  ihave Ha := (await_deal (F := F) c) $$ [HatR Hd]
  · isplitl [HatR]; · iexact HatR
    iexact Hd
  icases Ha with ⟨Ha0, Ha1, Ha2, Ha3, Ha4, Ha5, Ha6⟩
  ihave Hs := (Entails.of_eq (bigSep_slot (F := F) _)) $$ HatS
  icases Hs with ⟨HS0, HS1, HS2, HS3, HS4, HS5, HS6⟩
  iapply (after c fun Q' => part1 m ρ K c Q') $$ [Ho Hsig Hh HatB Hcb]
  · isplitr; · iexact HR
    isplitr; · iexact Hlev
    isplitl [Ho]; · iexact Ho
    isplitl [Hsig]; · iexact Hsig
    isplitl [Hh]; · iexact Hh
    isplitl [HatB]; · iexact HatB
    iexact Hcb
  iintro ⟨Ho, Hl, HzB⟩
  dsimp -zeta only
  iapply (after c fun Q' => part2 m ρ K c Q') $$ [Ho Hl Hx Hrow Hpay]
  · isplitr; · iexact HR
    isplitl [Ho]; · iexact Ho
    isplitl [Hl]; · iexact Hl
    isplitl [Hx]; · iexact Hx
    isplitl [Hrow]; · iexact Hrow
    iexact Hpay
  iintro ⟨Ho, Hl, Hx, Hkept, Hs0, Hs1, Hr⟩
  dsimp -zeta only
  iapply (after c fun Q' => part3 m ρ K c _ _ Q') $$ [Ho Hl Hx Hr]
  · isplitr; · iexact HR
    isplitl [Ho]; · iexact Ho
    isplitl [Hl]; · iexact Hl
    isplitl [Hx]; · iexact Hx
    iexact Hr
  iintro ⟨Ho, Hx, Hs2, Hs3, Hs4, Hs5, Hs6⟩
  dsimp -zeta only
  iapply (after c fun Q' => part4 m ρ K c _ _ Q') $$ [Ho Ha0 Ha1 Ha2 Ha3]
  · isplitr; · iexact HR
    isplitl [Ho]; · iexact Ho
    isplitl [Ha0]; · iexact Ha0
    isplitl [Ha1]; · iexact Ha1
    isplitl [Ha2]; · iexact Ha2
    iexact Ha3
  iintro ⟨Ho, Ha0, Ha1, Ha2, Ha3⟩
  dsimp -zeta only
  iapply (after c fun Q' => part5 m ρ K c Q') $$ [Ho Ha0 Ha1 Ha2 Ha3 Ha4 Ha5 Ha6]
  · isplitr; · iexact HR
    isplitl [Ho]; · iexact Ho
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Ha6
  iintro ⟨Ho, Ha0, Ha1, Ha2, Ha3, Ha4, Ha5, Ha6⟩
  dsimp -zeta only
  iapply (after c fun Q' => part6 m ρ K c _ _ f Q') $$ [Ho Ha4 Ha5 Ha6 Hf HS0 Hs0 HS1 Hs1]
  · isplitr; · iexact HR
    isplitl [Ho]; · iexact Ho
    isplitl [Ha4]; · iexact Ha4
    isplitl [Ha5]; · iexact Ha5
    isplitl [Ha6]; · iexact Ha6
    isplitl [Hf]; · iexact Hf
    unfold lent
    isplitl [HS0 Hs0]
    · isplitl [HS0]; · iexact HS0
      iexact Hs0
    isplitl [HS1]; · iexact HS1
    iexact Hs1
  iintro ⟨Ho, Ha4, Ha5, Ha6, Hf, Hb0, Hb1⟩
  clear f
  iapply (send_wait m ρ K c 2 _ (by decide) (by revert c; decide) _ _ rfl) $$ [Ho HS2 Hs2]
  · isplitr; · iexact HR
    isplitl [Ho]; · iexact Ho
    unfold lent; isplitl [HS2]; · iexact HS2
    iexact Hs2
  iintro ⟨Ho, Hb2⟩
  iapply (send_wait m ρ K c 3 _ (by decide) (by revert c; decide) _ _ rfl) $$ [Ho HS3 Hs3]
  · isplitr; · iexact HR
    isplitl [Ho]; · iexact Ho
    unfold lent; isplitl [HS3]; · iexact HS3
    iexact Hs3
  iintro ⟨Ho, Hb3⟩
  iapply (send_wait m ρ K c 4 _ (by decide) (by revert c; decide) _ _ rfl) $$ [Ho HS4 Hs4]
  · isplitr; · iexact HR
    isplitl [Ho]; · iexact Ho
    unfold lent; isplitl [HS4]; · iexact HS4
    iexact Hs4
  iintro ⟨Ho, Hb4⟩
  iapply (send_wait m ρ K c 5 _ (by decide) (by revert c; decide) _ _ rfl) $$ [Ho HS5 Hs5]
  · isplitr; · iexact HR
    isplitl [Ho]; · iexact Ho
    unfold lent; isplitl [HS5]; · iexact HS5
    iexact Hs5
  iintro ⟨Ho, Hb5⟩
  iapply (send_wait m ρ K c 6 _ (by decide) (by revert c; decide) _ _ rfl) $$ [Ho HS6 Hs6]
  · isplitr; · iexact HR
    isplitl [Ho]; · iexact Ho
    unfold lent; isplitl [HS6]; · iexact HS6
    iexact Hs6
  iintro ⟨Ho, Hb6⟩
  rw [Prog.pure_eq_ret, wp_ret]; imodintro
  iapply Hk
  ihave He := (emptied_join (F := F) c) $$ [Ha0 Ha1 Ha2 Ha3 Ha4 Ha5 Ha6]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Ha6
  ihave Hb := (back_join m ρ c) $$ [Hkept Hb0 Hb1 Hb2 Hb3 Hb4 Hb5 Hb6]
  · isplitl [Hkept]; · iexact Hkept
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  icases He with ⟨HzR, Hland⟩
  icases Hb with ⟨HzS, Hrow⟩
  unfold Φ₁ scr
  isplitl [HzR HzS HzB Hland Hrow]
  · isplitl [Hland Hrow]
    · isplitl [Hrow] <;> iassumption
    iapply (Entails.of_eq (bigSep_cells (F := F) _).symm)
    isplitl [HzB]; · iexact HzB
    isplitl [HzS]; · iexact HzS
    iexact HzR
  isplitl [Ho]; · iexact Ho
  isplitl [Hx]; · iexact Hx
  iexact Hf

end Whole

end Cert.Scan
-- ==== Proof.Launch.lean ====
/-
# The launch on eight devices

The ghost state of the exchange is made once for all devices and dealt to those that use it, each device's body runs
from its share of it, and the arrays stand at the end at what the bodies staged.
-/
module
public import proofs.«01_k».proof.Proof.Device
public import Idealize.ShloMosaic.Lib.Pipeline.CollectiveSegs
@[expose] public section
noncomputable section
namespace Cert.Scan
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop)
variable {F : FTy → Type} [FloatOps F]
local notation "𝕄" => MT nD τ sig Unit (Elt F) ℕ UU ℕ
variable (m : (ℓ : Loc nD τ sig) → Buf (Elt F) ℓ) (ρ : Dev nD → PrngReg)

/-! ## The pipeline's data -/

theorem cfg0_N : cfg0.N = 1 := by decide
/-- The one point of the grid. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What stands in each staging buffer after the point, what each device holds around it, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The buffer `b` of `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

set_option maxRecDepth 4000 in
/-- The body leads from the one to the other. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) sM (Memref.isWhole_whole _) rM (Memref.isWhole_whole _) cc0_scratch2 cc0_scratch3) (fun _ => bodyPost m ρ c)
  unfold bodyPre Φ₀ start Dat.owesAt Pipeline.owesWithin
  iintro ⟨⟨⟨⟨%K, Hg⟩, Hcb, Hcr, Hlev⟩, Hscr⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  iapply (body_run m ρ K c g1 fun _ => bodyPost m ρ c) $$ [Hg Hcb Hcr Hlev Hscr HO Hx Hout]
  · isplitl [Hg]; · iexact Hg
    isplitl [Hcb]; · iexact Hcb
    isplitl [Hcr]; · iexact Hcr
    isplitl [Hlev]; · iexact Hlev
    isplitl [Hscr]; · iexact Hscr
    isplitl [HO]; · unfold owing; iexists W; iexact HO
    isplitl [Hx]; · unfold xPts; iexact Hx
    unfold oPts; iexact Hout
  unfold owing xPts oPts bodyPost Dat.owesAt Pipeline.owesWithin
  iintro ⟨HΦ, ⟨%W', HO⟩, Hx, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## The exchange's ghost state at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × CIx → GSem nD τ sig) := by
  rintro ⟨c, j⟩ ⟨c', j'⟩ h
  obtain rfl : c = c' := congrArg (fun g : GSem nD τ sig => g.1.1) h
  obtain rfl : j = j' := csem_injective (congrArg Prod.snd h)
  rfl
def exCells : Finset (GSem nD τ sig) := Finset.univ.map ⟨kcell, kcell_injective⟩

/-- A token for every cell and every device that might pay there. -/
abbrev tokOf (x : (Dev nD × CIx) × Dev nD) : GSem nD τ sig × ℕ × Dev nD := (kcell x.1, 0, x.2)
theorem tokOf_injective : Function.Injective (tokOf : (Dev nD × CIx) × Dev nD → GSem nD τ sig × ℕ × Dev nD) := by
  rintro ⟨ck, d⟩ ⟨ck', d'⟩ h
  obtain rfl : ck = ck' := kcell_injective (congrArg Prod.fst h)
  obtain rfl : d = d' := congrArg (fun x : GSem nD τ sig × ℕ × Dev nD => x.2.2) h
  rfl
def exToks : Finset (GSem nD τ sig × ℕ × Dev nD) := Finset.univ.map ⟨tokOf, tokOf_injective⟩

def u₀ : UU :=
  (initOf (Pipeline.cells cfgs cellOf_inj) (Pipeline.launchToks cfgs cellOf_inj), initOf exCells exToks)

/-- The tokens of the cells of device `c`. -/
def toks (c : Dev nD) : sProp 𝕄 := bigSep Finset.univ fun j : CIx => bigSep Finset.univ fun d : Dev nD => dutyTok ER (kcell (c, j)) 0 d

/-- What the launch element deals device `c`; -/
def G (c : Dev nD) : sProp 𝕄 :=
  iprop((bigSep Finset.univ fun j : CIx => roundState ER (net m ρ) (kcell (c, j)) 0)
    ∗ (bigSep Finset.univ fun j : CIx => iprop(atPos ER (kcell (c, j)) 0 ∅ 0 ∗ reached ER (kcell (c, j)) 0)) ∗ toks (F := F) c)
/-- and what becomes of it when every device's share is seen together. -/
def G' (c : Dev nD) : sProp 𝕄 := iprop(∃ K, ghost m ρ K c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun j : CIx => Φ (kcell (c, j)) := by
    unfold exCells; rw [bigSep_map, bigSep_univ_prod]; rfl
  have hT : bigSep exToks (fun x => (dutyTok ER x.1 x.2.1 x.2.2 : sProp 𝕄)) = bigSep Finset.univ fun c : Dev nD => toks (F := F) c := by
    unfold exToks; rw [bigSep_map, bigSep_univ_prod, bigSep_univ_prod]; rfl
  iintro HX
  imod (Rounds.fund ER (net m ρ) exCells exToks) $$ HX with ⟨Hst, Hr, Hat, Htok⟩
  imodintro
  ihave Hst' := (Entails.of_eq (hX fun g => roundState ER (net m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier's semaphore is the only one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores and the barrier's are those of the exchange. -/
theorem sems0_eq (c : Dev nD) :
    iprop(Pipeline.ownSems0 (Ix := Unit) (Name := ℕ) (U := UU) (Lvl := ℕ) (Val := Elt F) (τ := τ) osem c ∗ unscopedSems0 c)
      ⊣⊢ (bigSep Finset.univ fun j : CIx => semVal (kcell (c, j)) 0 : sProp 𝕄) := by
  have h : (bigSep Finset.univ fun j : CIx => semVal (kcell (c, j)) 0 : sProp 𝕄)
      = iprop(unscopedSems0 c ∗ Pipeline.ownSems0 (Ix := Unit) (Name := ℕ) (U := UU) (Lvl := ℕ) (Val := Elt F) (τ := τ) osem c) := by
    rw [unscopedSems0_eq, bigSep_univ_sum]
    exact congrArg (fun P : sProp 𝕄 => iprop(P ∗ Pipeline.ownSems0 (Ix := Unit) (Name := ℕ) (U := UU) (Lvl := ℕ) (Val := Elt F) (τ := τ) osem c))
      (bigSep_univ_eq_bigSepL [()] (by decide) (by decide) _)
  rw [h]
  constructor <;> (iintro ⟨H1, H2⟩; isplitl [H2] <;> iassumption)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (net m ρ) κ (kcell (c, j))))
          ∗ (bigSep Finset.univ fun j => iprop(atPos ER (kcell (c, j)) 0 ∅ 0 ∗ reached ER (kcell (c, j)) 0)) ∗ toks (F := F) c) := by
  unfold G
  iintro ⟨Hos, Hus, Hst, Hat, Htok⟩
  ihave Hv := (sems0_eq (F := F) c).1 $$ [Hos Hus]
  · isplitl [Hos] <;> iassumption
  imod (show iprop((bigSep Finset.univ fun j : CIx => semVal (kcell (c, j)) 0) ∗ bigSep Finset.univ fun j : CIx => roundState ER (net m ρ) (kcell (c, j)) 0)
      ⊢ (|={Set.univ}=> bigSep Finset.univ fun j => iprop(∃ κ : ℕ, cellInv ER (net m ρ) κ (kcell (c, j))) : sProp 𝕄) from by
        rw [← bigSep_sep']
        exact (bigSep_mono fun j _ => (Rounds.body_intro ER (net m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to the devices that pay with them: a barrier's to each signaller, a send cell's to its own device, a
    receive cell's to the device whose copy completes on it. -/
theorem toks_around : (bigSep Finset.univ fun c : Dev nD => (toks (F := F) c))
    ⊢ bigSep Finset.univ fun c : Dev nD => iprop(sigToks (F := F) c ∗ bigSep Finset.univ (payToks (F := F) c)) := by
  have h (c : Dev nD) : toks (F := F) c ⊢ iprop((bigSep Finset.univ fun d : Dev nD => dutyTok ER (barCell c) 0 d)
      ∗ (bigSep Finset.univ fun k : Fin 7 => dutyTok ER (sendCell c k) 0 0) ∗ bigSep Finset.univ fun k : Fin 7 => dutyTok ER (recvCell c k) 0 0) := by
    unfold toks
    refine (Entails.of_eq (bigSep_cells (F := F) _)).trans (sep_mono_right ?_)
    refine BIBase.Entails.trans (sep_mono_left (bigSep_mono fun k _ => bigSep_elim (Finset.mem_univ (0 : Dev nD)))) (sep_mono_right (bigSep_mono fun k _ => bigSep_elim (Finset.mem_univ (0 : Dev nD))))
  refine BIBase.Entails.trans (bigSep_mono fun c _ => h c) ?_
  unfold sigToks payToks
  simp only [bigSep_sep']
  rw [bigSep_univ_comm (fun (c d : Dev nD) => (dutyTok ER (barCell c) 0 d : sProp 𝕄)),
    bigSep_univ_comm (fun (c : Dev nD) (k : Fin 7) => (dutyTok ER (recvCell c k) 0 0 : sProp 𝕄)),
    bigSep_univ_comm (fun (c : Dev nD) (k : Fin 7) => (dutyTok ER (recvCell (up c k) k) 0 0 : sProp 𝕄)),
    bigSep_congr (s := Finset.univ) (fun (k : Fin 7) _ => bigSep_univ_equiv (upEquiv k) (fun c : Dev nD => (dutyTok ER (recvCell c k) 0 0 : sProp 𝕄)))]
  exact BI.Entails.refl _

omit [FloatOps F] in
/-- What persists may be given to every member of a family. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (net m ρ) κ (kcell (c, j))))
          ∗ (bigSep Finset.univ fun j => iprop(atPos ER (kcell (c, j)) 0 ∅ 0 ∗ reached ER (kcell (c, j)) 0)) ∗ toks (F := F) c) : sProp 𝕄)
      ⊢ bigSep Finset.univ (G' m ρ) := by
  rw [bigSep_sep', bigSep_sep', ← bigSep_univ_prod (fun ck : Dev nD × CIx => iprop(∃ κ : ℕ, cellInv ER (net m ρ) κ (kcell ck))),
    bigSep_congr (s := Finset.univ) (fun (c : Dev nD) _ => bigSep_sep' Finset.univ (fun j : CIx => (atPos ER (kcell (c, j)) 0 ∅ 0 : sProp 𝕄)) (fun j => reached ER (kcell (c, j)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (net m ρ) κ (kcell ck) : sProp 𝕄))) $$ HI
  icases HK with ⟨%K, #HI⟩
  ihave Htk := (toks_around (F := F)) $$ Htok
  iapply (bigSep_knowing (F := F) (R := records m ρ K)
    (Φ := fun c : Dev nD => iprop((bigSep Finset.univ fun j : CIx => atPos ER (kcell (c, j)) 0 ∅ 0) ∗ sigToks (F := F) c ∗ bigSep Finset.univ (payToks (F := F) c)))
    (Ψ := G' m ρ) fun c _ => by unfold G' ghost; iintro H; iexists K; iexact H)
  isplitr
  · unfold records; isplitl; · iexact HI
    iexact HR
  · iapply (Entails.of_eq (bigSep_sep' Finset.univ (fun c : Dev nD => bigSep Finset.univ fun j : CIx => (atPos ER (kcell (c, j)) 0 ∅ 0 : sProp 𝕄))
      (fun c : Dev nD => iprop(sigToks (F := F) c ∗ bigSep Finset.univ (payToks (F := F) c)))).symm)
    isplitl [Hat]; · iexact Hat
    iexact Htk

/-- From every device's semaphores at zero and the launch element's deal to what every device starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem sum_list_apply {ι : Type} (f : ι → CellTallies nD τ sig Unit) (l : List ι) (g : GSem nD τ sig) (u : Unit) :
    (l.map f).sum g u = (l.map fun i => f i g u).sum := by
  induction l with
  | nil => rfl
  | cons a l ih => rw [List.map_cons, List.sum_cons, List.map_cons, List.sum_cons, Pi.add_apply, Finsupp.add_apply, ih]

theorem bar_eq_iff {a b : Dev nD} : Iff (barCell a = barCell b) (a = b) :=
  ⟨fun h => congrArg (fun g : GSem nD τ sig => g.1.1) h, fun h => h ▸ rfl⟩
theorem recv_eq_iff {a b : Dev nD} {k k' : Fin 7} : Iff (recvCell a k = recvCell b k') (a = b ∧ k = k') :=
  ⟨fun h => by
    have := kcell_injective (a₁ := (a, .inr (.inr k))) (a₂ := (b, .inr (.inr k'))) h
    simpa using this, fun h => by rw [h.1, h.2]⟩
theorem bar_ne_recv (a b : Dev nD) (k : Fin 7) : barCell a ≠ recvCell b k := fun h => by
  have := kcell_injective (a₁ := (a, .inl ())) (a₂ := (b, .inr (.inr k))) h
  simp at this

/-- What device `d` owes a barrier cell: a unit, if it is another device's; -/
theorem owed_bar (d c : Dev nD) : O₀ d (barCell c) () = if d = c then 0 else 1 := by
  have h1 (r : Dev nD) : sigOwe d r (barCell c) () = if r ≠ d ∧ r = c then 1 else 0 := by
    unfold sigOwe
    by_cases h : r = d
    · rw [if_pos h, if_neg fun h' => h'.1 h]; rfl
    · rw [if_neg h, tallyAt_apply]; exact if_congr ⟨fun h' => ⟨h, (bar_eq_iff.mp h'.1).symm⟩, fun h' => ⟨by rw [h'.2], rfl⟩⟩ rfl rfl
  have h2 (k : Fin 7) : sendOwe d k (barCell c) () = 0 := by
    unfold sendOwe
    split
    · rw [tallyAt_apply, if_neg fun h' => bar_ne_recv _ _ _ h'.1]
    · rfl
  unfold O₀ sigsOwed sendsOwed
  rw [Pi.add_apply, Finsupp.add_apply, sum_list_apply, sum_list_apply, funext h1, funext h2]
  clear h1 h2
  revert d c; decide

/-- a receive cell: a row's credit, if its copy of that number goes there. -/
theorem owed_recv (d c : Dev nD) (k : Fin 7) : O₀ d (recvCell c k) () = (if HasUp d k ∧ up d k = c then 1 else 0) * N := by
  have h1 (r : Dev nD) : sigOwe d r (recvCell c k) () = 0 := by
    unfold sigOwe
    split
    · rfl
    · rw [tallyAt_apply, if_neg fun h' => bar_ne_recv _ _ _ h'.1.symm]
  have h2 (k' : Fin 7) : sendOwe d k' (recvCell c k) () = (if HasUp d k' ∧ up d k' = c ∧ k' = k then 1 else 0) * N := by
    unfold sendOwe
    by_cases h : HasUp d k'
    · rw [if_pos h, tallyAt_apply]
      by_cases h' : up d k' = c ∧ k' = k
      · rw [if_pos ⟨recv_eq_iff.mpr ⟨h'.1.symm, h'.2.symm⟩, rfl⟩, if_pos ⟨h, h'⟩, Nat.one_mul]
      · rw [if_neg fun hh => h' ⟨(recv_eq_iff.mp hh.1).1.symm, (recv_eq_iff.mp hh.1).2.symm⟩, if_neg fun hh => h' hh.2, Nat.zero_mul]
    · rw [if_neg h, if_neg fun hh => h hh.1, Nat.zero_mul]; rfl
  unfold O₀ sigsOwed sendsOwed
  rw [Pi.add_apply, Finsupp.add_apply, sum_list_apply, sum_list_apply, funext h1, funext h2, List.sum_map_mul_right]
  have h3 : (List.map (fun _ : Dev nD => 0) [0, 1, 2, 3, 4, 5, 6, 7]).sum = 0 := by decide
  rw [h3, Nat.zero_add]
  refine congrArg (· * N) ?_
  clear h1 h2 h3
  revert d c k; decide

/-- Seven units on the barrier cell; -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- a row's credit on a receive cell, if something lands there. -/
theorem launch_recv (c : Dev nD) (k : Fin 7) (h : HasDown c k) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, ← Finset.sum_mul]
  have : (∑ d : Dev nD, if HasUp d k ∧ up d k = c then 1 else 0) = 1 := by revert c k; decide
  rw [this, Nat.one_mul]

omit [FloatOps F] in
theorem creds (c : Dev nD) :
    (Pipeline.launchCred O₀ c : sProp 𝕄) ⊢ iprop(cred (tallyAt (barCell c) () 7) ∗ bigSep Finset.univ (recvCred (F := F) c)) := by
  unfold Pipeline.launchCred
  refine BIBase.Entails.trans (bigSep_subset (t := Finset.univ.map ⟨csem, csem_injective⟩) (Finset.subset_univ _)) ?_
  rw [bigSep_map]
  refine (Entails.of_eq (bigSep_cells (F := F) _)).trans ?_
  refine BIBase.Entails.trans (sep_mono_left (Entails.of_eq (congrArg cred (launch_bar c)))) (sep_mono_right ?_)
  refine BIBase.Entails.trans ?_ (bigSep_mono (s := Finset.univ) (Φ := fun k : Fin 7 => cred (tallyOn (recvCell c k) (launchCredit (Pipeline.owing O₀) 0 (recvCell c k)))) fun k _ => ?_)
  · iintro ⟨-, H⟩; iexact H
  · unfold recvCred
    by_cases h : HasDown c k
    · rw [if_pos h, launch_recv c k h]; exact BI.Entails.refl _
    · rw [if_neg h]
      exact show (cred (tallyOn (recvCell c k) (launchCredit (Pipeline.owing O₀) 0 (recvCell c k))) : sProp 𝕄) ⊢ iprop(emp) from by iintro -; iempintro

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr rowAny landAny
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scr rowAny landAny
  iintro ⟨Hr, Hz⟩
  ihave Hz := (sems0_eq (F := F) c).2 $$ Hz
  icases Hz with ⟨Hos, Hus⟩
  isplitl [Hus]; · iexact Hus
  isplitl [Hos]; · iexact Hos
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every run of the kernel on the eight devices ends, with each
    device's arrays at the contents computed here and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array holds after the run what it held; -/
theorem finalA_x (c : Dev nD) : finalA m ρ c (0 : Fin 2) = m ((c : Thread nD τ).loc main_arg0) :=
  (dats (F := F) m ρ 0 c).arrAt_in (0 : Fin 2) rfl _

end Cert.Scan
-- ==== Proof.Final.lean ====
/-
# What the arrays hold after the run

The one block of each window is its whole array: a device's input is staged whole and its result written back whole. So
the run leaves the input array as it was and the result array at what the body staged.
-/
module
public import proofs.«01_k».proof.Proof.Launch
public import Idealize.ShloMosaic.Lib.Pipeline.Value
@[expose] public section
noncomputable section
namespace Cert.Scan
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop)
variable {F : FTy → Type} [FloatOps F]
local notation "𝕄" => MT nD τ sig Unit (Elt F) ℕ UU ℕ
variable (m : (ℓ : Loc nD τ sig) → Buf (Elt F) ℓ) (ρ : Dev nD → PrngReg)

/-- The first window's block is its whole array; -/
theorem emb_blk_x (t : Fin cfg0.N) (i : S2048x1024.Idx) : (win0_0.blk t).view.emb i = i :=
  funext fun a => Fin.ext (Pipeline.Window.rect_emb_val_of_index_zero win0_0 t a (by revert a t; decide) i)
theorem read_blk_x (t : Fin cfg0.N) (G : (⟨S2048x1024, .f32⟩ : BufTy).Contents (Elt F)) : (win0_0.blk t).view.read (Elt F) G = G :=
  funext fun i => congrArg G (emb_blk_x t i)
/-- and so is the second's. -/
theorem emb_blk_out (t : Fin cfg0.N) (i : S2048x1024.Idx) : (win0_1.blk t).view.emb i = i :=
  funext fun a => Fin.ext (Pipeline.Window.rect_emb_val_of_index_zero win0_1 t a (by revert a t; decide) i)
theorem read_blk_out (t : Fin cfg0.N) (G : (⟨S2048x1024, .f32⟩ : BufTy).Contents (Elt F)) : (win0_1.blk t).view.read (Elt F) G = G :=
  funext fun i => congrArg G (emb_blk_out t i)

/-- What a device stages of its input is the input. -/
theorem xstg_eq (c : Dev nD) : xstg m ρ c = m ((c : Thread nD τ).loc main_arg0) := read_blk_x _ _

/-- The result's array holds after the run what the body staged. -/
theorem finalA_out (c : Dev nD) : finalA m ρ c (1 : Fin 2) = outAt m ρ c := by
  refine (dats (F := F) m ρ 0 c).arrAt_eq_of_cover (1 : Fin 2) (outAt m ρ c) (fun t _ => ?_) fun i => ⟨t₀, rfl, ?_⟩
  · rw [show ((cfg0.win (1 : Fin 2)).blk t).view.read (Elt F) (outAt m ρ c) = outAt m ρ c from read_blk_out t _]
    rw [fin_N t]
    unfold Dat.flushed
    dsimp only [dats]
    rfl
  · rw [← emb_blk_out t₀ i]; exact View.emb_mem_set _ _

/-- Every run from zero counters ends with each device's result as computed here, its input as it was, and every
    semaphore counter at zero. -/
theorem run_out : θ_run defs (onTc (τ := τ) (main (F := F))) ⟨m, fun _ => 0, ρ⟩ fun r =>
    (∀ c : Dev nD, r.2.mem ((c : Thread nD τ).loc main_v1) = outAt m ρ c ∧ r.2.mem ((c : Thread nD τ).loc main_arg0) = m ((c : Thread nD τ).loc main_arg0))
      ∧ r.2.sem = fun _ => 0 :=
  (θ_run defs _ _).mono (fun _ h => ⟨fun c => ⟨(h.1 c (1 : Fin 2)).trans (finalA_out m ρ c), (h.1 c (0 : Fin 2)).trans (finalA_x m ρ c)⟩, h.2⟩) (run_main m ρ)

end Cert.Scan
-- ==== Proof.BlockScan.lean ====
/-
# What a device computes

Device `c` multiplies down its own rows by eleven shifted multiplications, sends the others the product of all its rows,
and multiplies its result by the rows it received from the devices below it. Read on the whole input, that is the
product down to each of its rows.
-/
module

public import proofs.«01_k».proof.Proof.Columns
public import proofs.«01_k».proof.Proof.RefScan
public import proofs.«01_k».proof.Proof.Final

@[expose] public section

noncomputable section

namespace Cert.Scan

open Cert.KernelIdeal Cert.KernelIdeal.Gen
open Idealize.ShloMosaic hiding ix1 ix2 eq_ix2
open Idealize.ShloMosaic.TcCoe Idealize.ShloMosaic.ValueIdx Cert.Columns Finset

/-- Halving eleven times leaves the totals of the columns. -/
theorem pay1_apply (x : FVec Ideal (Rows 2048) .f32) (j : Fin 1024) : k0_pay1 (F := Ideal) x (ix2 0 j) = total x j := by
  unfold k0_pay1
  rw [shapeCast_self, shapeCast_self]
  refine (total_one _ j).symm.trans ?_
  iterate 11 rw [total_halve (by decide)]

/-- The first shifted multiplications; -/
theorem pay2_window (x : FVec Ideal (Rows 2048) .f32) : Window x (k0_pay2 x) 8 := by
  unfold k0_pay2; dsimp only
  rw [shapeCast_self]
  exact (((Window.self x).double _ _ (by decide)).double _ _ (by decide)).double _ _ (by decide)

/-- all but the last; -/
theorem pay4_window (x : FVec Ideal (Rows 2048) .f32) : Window x (k0_pay4 (F := Ideal) (k0_pay2 x) (k0_pay3 x)) 1024 := by
  unfold k0_pay4 k0_pay3; dsimp only
  exact (((((((pay2_window x).double _ _ (by decide)).double _ _ (by decide)).double _ _ (by decide)).double _ _ (by decide)).double _ _ (by decide)).double
    _ _ (by decide)).double _ _ (by decide)

/-- A received row counts if there is a device as far below; -/
def factor (c : Dev nD) (k : Fin 7) (w : Vec Ideal S1x1x1024 .f32) (j : Fin 1024) : EReal :=
  if k.val + 1 ≤ c.val then shapeCast S1x1024 w shapeCasts_S1x1x1024_S1x1024 (ix2 0 j) else 1

/-- that is what the comparison of the device's number and the choice between the row and ones say. -/
theorem select_apply (c : Dev nD) (k : Fin 7) (b : BitVec 32) (hb : b = BitVec.ofNat 32 (k.val + 1)) (w : Vec Ideal S1x1x1024 .f32) (j : Fin 1024) :
    (Scalar.select (Scalar.cmpi .sge (pos c) b) (shapeCast S1x1024 w shapeCasts_S1x1x1024_S1x1024)
      (broadcast S1x1024 (Scalar.ofBits .f32 0x3F800000#32 : Ideal .f32)) : FVec Ideal S1x1024 .f32) (ix2 0 j) = factor c k w j := by
  subst hb
  have h : Scalar.cmpi .sge (pos c) (BitVec.ofNat 32 (k.val + 1)) = if k.val + 1 ≤ c.val then 1#1 else 0#1 := by
    clear w j; revert c k; decide
  unfold factor Scalar.select
  rw [h]
  by_cases hk : k.val + 1 ≤ c.val
  · rw [if_pos hk, if_pos hk]; rfl
  · rw [if_neg hk, if_neg hk]; exact one_bits

/-- The factors of the first four rows; -/
theorem pay5_apply (c : Dev nD) (w : Fin 7 → Vec Ideal S1x1x1024 .f32) (j : Fin 1024) :
    k0_pay5 (F := Ideal) (pos c) (w 0) (w 1) (w 2) (w 3) (ix2 0 j) = factor c 0 (w 0) j * factor c 1 (w 1) j * factor c 2 (w 2) j * factor c 3 (w 3) j := by
  unfold k0_pay5
  rw [mulf_apply, mulf_apply, mulf_apply, mulf_apply, select_apply c 0 1#32 rfl (w 0) j, select_apply c 1 2#32 rfl (w 1) j, select_apply c 2 3#32 rfl (w 2) j, select_apply c 3 4#32 rfl (w 3) j,
    broadcast_apply, one_bits, one_mul]

/-- the last shifted multiplication, and all seven factors: the result of a device that has its own rows and the seven received. -/
theorem pay6_apply (c : Dev nD) (x : FVec Ideal (Rows 2048) .f32) (w : Fin 7 → Vec Ideal S1x1x1024 .f32) (i : Fin 2048) (j : Fin 1024) :
    k0_pay6 (F := Ideal) (pos c) (k0_pay4 (F := Ideal) (k0_pay2 x) (k0_pay3 x)) (k0_pay5 (F := Ideal) (pos c) (w 0) (w 1) (w 2) (w 3)) 5#32 (w 4) (w 5) (w 6) (ix2 i j)
      = above x (i.val + 1) j * ∏ k : Fin 7, factor c k (w k) j := by
  have h4 := pay4_window x
  generalize k0_pay4 (F := Ideal) (k0_pay2 x) (k0_pay3 x) = v at h4
  unfold k0_pay6
  rw [mulf_apply, broadcastTo_1b_ab_apply, mulf_apply (s := S1x1024), mulf_apply (s := S1x1024), mulf_apply (s := S1x1024), pay5_apply, select_apply c 4 5#32 rfl (w 4) j, select_apply c 5 6#32 rfl (w 5) j, select_apply c 6 7#32 rfl (w 6) j,
    Fin.prod_univ_seven]
  exact congrArg (· * _) ((cell_val _ i j).symm.trans ((h4.double _ _ (by decide)).whole i.isLt j))

/-- The row a device receives from another is the product of the other's rows. -/
theorem row_apply (m : (ℓ : Loc nD τ sig) → Buf (Elt Ideal) ℓ) (ρ : Dev nD → PrngReg) (c : Dev nD) (k : Fin 7) (j : Fin 1024) :
    shapeCast S1x1024 (row m ρ c k) shapeCasts_S1x1x1024_S1x1024 (ix2 0 j) = total (m (((down c k : Dev nD) : Thread nD τ).loc main_arg0)) j := by
  rw [row_landed]; unfold tot; rw [xstg_eq]; exact pay1_apply _ j

/-- The rows of device `b`, for any number `b`. -/
def part (m : (ℓ : Loc nD τ sig) → Buf (Elt Ideal) ℓ) (b : ℕ) : FVec Ideal (Rows 2048) .f32 :=
  if h : b < 8 then m (((⟨b, h⟩ : Dev nD) : Thread nD τ).loc main_arg0) else fun _ => 1

theorem part_val (m : (ℓ : Loc nD τ sig) → Buf (Elt Ideal) ℓ) (c : Dev nD) : part m c.val = m ((c : Thread nD τ).loc main_arg0) := dif_pos c.isLt

/-- The seven factors are the totals of the devices below. -/
theorem factors (m : (ℓ : Loc nD τ sig) → Buf (Elt Ideal) ℓ) (ρ : Dev nD → PrngReg) (c : Dev nD) (j : Fin 1024) :
    ∏ k : Fin 7, factor c k (row m ρ c k) j = ∏ b ∈ range c.val, total (part m b) j := by
  rw [← prod_nearest (fun b => total (part m b) j) (show c.val ≤ 7 from Nat.le_of_lt_succ c.isLt), prod_range]
  refine prod_congr rfl fun k _ => ?_
  unfold factor
  split_ifs with h
  · have hd : (down c k).val = c.val - 1 - k.val := by
      unfold down
      have : c.val < 8 := c.isLt
      show (c.val + 7 - k.val) % 8 = _
      omega
    rw [row_apply, ← part_val m, hd]
  · rfl

/-- A device's result is the product down its own rows, times the totals of the devices below. -/
theorem outAt_apply (m : (ℓ : Loc nD τ sig) → Buf (Elt Ideal) ℓ) (ρ : Dev nD → PrngReg) (c : Dev nD) (i : Fin 2048) (j : Fin 1024) :
    (outAt m ρ c : FVec Ideal (Rows 2048) .f32) (ix2 i j) = above (part m c.val) (i.val + 1) j * ∏ b ∈ range c.val, total (part m b) j := by
  unfold outAt
  rw [xstg_eq, part_val, ← factors m ρ]
  exact pay6_apply c _ (row m ρ c) i j

/-- Device `c`'s result is its block of the products down the whole array. -/
theorem outAt_eq (m : (ℓ : Loc nD τ sig) → Buf (Elt Ideal) ℓ) (ρ : Dev nD → PrngReg) (X : FVec Ideal (Rows 16384) .f32)
    (hX : ∀ c : Dev nD, m ((c : Thread nD τ).loc main_arg0) = Layout.block ⟨2, ![2048, 1024]⟩ ⟨2, ![16384, 1024]⟩ 0 8 c X) (c : Dev nD) :
    outAt m ρ c = Layout.block ⟨2, ![2048, 1024]⟩ ⟨2, ![16384, 1024]⟩ 0 8 c (RefScan.scan X) := by
  have hcell (b : ℕ) (hb : b < 8) (i : ℕ) (hi : i < 2048) (j : Fin 1024) : cell (part m b) i j = cell X (b * 2048 + i) j := by
    rw [cell_of_lt _ hi, cell_of_lt X (show b * 2048 + i < 16384 by omega)]
    unfold part
    rw [dif_pos hb, hX, Layout.block_apply]
    refine congrArg X (funext fun a => Fin.ext ?_)
    match a with
    | ⟨0, _⟩ => rfl
    | ⟨1, _⟩ => rfl
  refine funext fun (i : (Rows 2048).Idx) => ?_
  refine (congrArg (outAt m ρ c : FVec Ideal (Rows 2048) .f32) (eq_ix2 i)).trans ((outAt_apply m ρ c (i 0) (i 1)).trans ?_)
  exact (above_in_block X (part m) (i 1) c.val (fun b hb k hk => hcell b (by have : c.val < 8 := c.isLt; omega) k hk _) (i 0).isLt).symm

end Cert.Scan
-- ==== Proof.lean ====
/-
# The certificate

The kernel runs, ends with its input unchanged and every semaphore counter at zero, and so does its exact reading. The
reference runs. On the extended reals each device's result is its block of what the reference computes, the products down
the columns of the whole array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.BlockScan
public import Idealize.ShloMosaic.Lib.Quiescent

@[expose] public section

noncomputable section

namespace Cert.Proof

open Idealize.ShloMosaic Idealize.SL.Sem

/-- From any memory and zero counters the kernel runs, and ends with its input as it was and the counters at zero; -/
theorem quiescent_Kernel : Cert.quiescent_Kernel (hKernel := Cert.Kernel.Gen.facts) := fun m ρ _ =>
  Same.runs (F := Bits) m ρ _ ((θ_run _ _ _).mono (fun _ h => ⟨fun c => (h.1 c).2, h.2⟩) (Scan.run_out (F := Bits) m ρ))

/-- so does its exact reading, -/
theorem quiescent_KernelIdeal : Cert.quiescent_KernelIdeal (hKernelIdeal := Cert.KernelIdeal.Gen.facts) := fun m ρ _ =>
  (θ_run _ _ _).mono (fun _ h => ⟨fun c => (h.1 c).2, h.2⟩) (Scan.run_out (F := Ideal) m ρ)

/-- and so does the reference, which has no semaphores. -/
theorem quiescent_ReferenceIdeal : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (RefScan.run m ρ)

/-- If every device holds its block of the reference's input, it ends with its block of the reference's result. -/
theorem algebraic : Cert.algebraic_KernelIdeal_ReferenceIdeal (hKernelIdeal := Cert.KernelIdeal.Gen.facts)
    (hReferenceIdeal := Cert.ReferenceIdeal.Gen.facts) := fun m ρ m' ρ' _ hX =>
  ⟨RefScan.scan (m' (((0 : Dev Cert.ReferenceIdeal.nD).tc : Thread Cert.ReferenceIdeal.nD Cert.ReferenceIdeal.τ).loc Cert.ReferenceIdeal.main_arg0)),
    (θ_run _ _ _).mono (fun _ h c => ⟨(h.1 c).1.trans (Scan.outAt_eq m ρ _ hX c), (h.1 c).2⟩) (Scan.run_out (F := Ideal) m ρ),
    (θ_run _ _ _).mono (fun _ h => h 0) (RefScan.run m' ρ')⟩

/-- All five claims. -/
theorem claim : Cert.Claim := ⟨Cert.Kernel.Gen.facts, Cert.KernelIdeal.Gen.facts, Cert.ReferenceIdeal.Gen.facts,
  quiescent_Kernel, quiescent_KernelIdeal, quiescent_ReferenceIdeal, trivial, algebraic⟩

end Cert.Proof

end
